-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre_inputs [hPre_pre_inputs : Cert.Pre_pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_inputs [hPre_pre_inputs : Cert.Pre_pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre_inputs [hKernelIdeal : Cert.KernelIdeal.Facts] [hPre_pre_inputs : Cert.Pre_pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre_inputs [hReferenceIdeal : Cert.ReferenceIdeal.Facts] [hPre_pre_inputs : Cert.Pre_pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_pre_inputs [hKernelIdeal : Cert.KernelIdeal.Facts] [hReferenceIdeal : Cert.ReferenceIdeal.Facts] [hPre_pre_inputs : Cert.Pre_pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre_inputs : Cert.Pre_pre_inputs.Facts),
    quiescent_Kernel (hKernel := hKernel)
    ∧ quiescent_KernelIdeal (hKernelIdeal := hKernelIdeal)
    ∧ quiescent_KernelIdeal_pre_pre_inputs (hKernelIdeal := hKernelIdeal) (hPre_pre_inputs := hPre_pre_inputs)
    ∧ quiescent_ReferenceIdeal (hReferenceIdeal := hReferenceIdeal)
    ∧ quiescent_ReferenceIdeal_pre_pre_inputs (hReferenceIdeal := hReferenceIdeal) (hPre_pre_inputs := hPre_pre_inputs)
    ∧ preserves_Kernel_KernelIdeal
    ∧ algebraic_KernelIdeal_ReferenceIdeal_pre_pre_inputs (hKernelIdeal := hKernelIdeal) (hReferenceIdeal := hReferenceIdeal) (hPre_pre_inputs := hPre_pre_inputs)
-- ==== Pre_pre_inputs.lean ====
abbrev S1024x16x512 : Shape := ⟨3, ![1024, 16, 512]⟩
abbrev S1024 : Shape := ⟨1, ![1024]⟩
abbrev S16 : Shape := ⟨1, ![16]⟩
abbrev S_ : Shape := ⟨0, ![]⟩

class Facts : Prop where
  bcast_S_S1024x16x512 : S_.BroadcastsInDim S1024x16x512 (![] : Fin 0 → Fin S1024x16x512.rank)
  reducesTo_S1024x16x512_S_d0_1_2 : S1024x16x512.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x16x512 .f32) (main_arg1 : IVec S1024 32) (main_arg2 : IVec S16 32) (main_arg3 : IVec S16 32) : IVec S_ 1 :=
  let main_cst : FVec F S_ .f32 := constant S_ .f32 0x7F800000#32
  let main_v0 : FVec F S1024x16x512 .f32 := broadcastInDim S1024x16x512 ![] bcast_S_S1024x16x512 main_cst
  let main_v1 : IVec S1024x16x512 1 := cmpf .olt main_arg0 main_v0
  let main_c : IVec S_ 1 := constantI S_ 1 1#1
  let main_v2 : IVec S_ 1 := (fun x v => Host.reduce IntOp.andi x v reducesTo_S1024x16x512_S_d0_1_2 h_S_) main_v1 main_c
  let main_c_0 : IVec S_ 32 := constantI S_ 32 1#32
  let main_v3 : IVec S1024 32 := broadcastInDim S1024 ![] bcast_S_S1024 main_c_0
  let main_v4 : IVec S1024 1 := cmpi .sge main_arg1 main_v3
  let main_c_1 : IVec S_ 1 := constantI S_ 1 1#1
  let main_v5 : IVec S_ 1 := (fun x v => Host.reduce IntOp.andi x v reducesTo_S1024_S_d0 h_S_) main_v4 main_c_1
  let main_v6 : IVec S_ 1 := andi main_v2 main_v5
  let main_c_2 : IVec S_ 32 := constantI S_ 32 512#32
  let main_v7 : IVec S1024 32 := broadcastInDim S1024 ![] bcast_S_S1024 main_c_2
  let main_v8 : IVec S1024 1 := cmpi .slt main_arg1 main_v7
  let main_c_3 : IVec S_ 1 := constantI S_ 1 1#1
  let main_v9 : IVec S_ 1 := (fun x v => Host.reduce IntOp.andi x v reducesTo_S1024_S_d0 h_S_) main_v8 main_c_3
  let main_v10 : IVec S_ 1 := andi main_v6 main_v9
  main_v10
-- ==== Kernel.lean ====
abbrev S1024x16x512 : Shape := ⟨3, ![1024, 16, 512]⟩
abbrev S1024 : Shape := ⟨1, ![1024]⟩
abbrev S16 : Shape := ⟨1, ![16]⟩
abbrev S16x64 : Shape := ⟨2, ![16, 64]⟩
abbrev S1x1 : Shape := ⟨2, ![1, 1]⟩
abbrev S256x16x512 : Shape := ⟨3, ![256, 16, 512]⟩
abbrev S16x512x64 : Shape := ⟨3, ![16, 512, 64]⟩
abbrev S256x16x65 : Shape := ⟨3, ![256, 16, 65]⟩
abbrev S16x65 : Shape := ⟨2, ![16, 65]⟩
abbrev S16x1 : Shape := ⟨2, ![16, 1]⟩
abbrev S512x64 : Shape := ⟨2, ![512, 64]⟩
abbrev S1x64 : Shape := ⟨2, ![1, 64]⟩
abbrev S1x512x64 : Shape := ⟨3, ![1, 512, 64]⟩
abbrev S16x63 : Shape := ⟨2, ![16, 63]⟩
abbrev S256x1x512 : Shape := ⟨3, ![256, 1, 512]⟩
abbrev S256x512 : Shape := ⟨2, ![256, 512]⟩
abbrev S256x64 : Shape := ⟨2, ![256, 64]⟩
abbrev S256x1x64 : Shape := ⟨3, ![256, 1, 64]⟩
abbrev S256x16x64 : Shape := ⟨3, ![256, 16, 64]⟩
abbrev S256x16x1 : Shape := ⟨3, ![256, 16, 1]⟩
abbrev S256x16 : Shape := ⟨2, ![256, 16]⟩
abbrev S256x16x63 : Shape := ⟨3, ![256, 16, 63]⟩
abbrev S256x16x62 : Shape := ⟨3, ![256, 16, 62]⟩
abbrev S16x2 : Shape := ⟨2, ![16, 2]⟩
abbrev S16x3 : Shape := ⟨2, ![16, 3]⟩
abbrev S16x62 : Shape := ⟨2, ![16, 62]⟩
abbrev S4x16x65 : Shape := ⟨3, ![4, 16, 65]⟩
abbrev S3x16x65 : Shape := ⟨3, ![3, 16, 65]⟩
abbrev S2x16x65 : Shape := ⟨3, ![2, 16, 65]⟩
abbrev S1x16x65 : Shape := ⟨3, ![1, 16, 65]⟩
abbrev S16x4 : Shape := ⟨2, ![16, 4]⟩
abbrev S16x61 : Shape := ⟨2, ![16, 61]⟩
abbrev S1x16x1 : Shape := ⟨3, ![1, 16, 1]⟩
abbrev S1 : Shape := ⟨1, ![1]⟩
abbrev S1x1x1 : Shape := ⟨3, ![1, 1, 1]⟩

abbrev nBuf : Space → Nat
  | .hbm => 6
  | .vmem => 14
  | .smem => 0
  | _ => 0

abbrev bufTy : (tb : Table) → Fin (tcTables nBuf tb) → BufTy
  | .hbm, ⟨0, _⟩ => ⟨S1024x16x512, .f32⟩
  | .hbm, ⟨1, _⟩ => ⟨S1024, .i32⟩
  | .hbm, ⟨2, _⟩ => ⟨S16, .i32⟩
  | .hbm, ⟨3, _⟩ => ⟨S16, .i32⟩
  | .hbm, ⟨4, _⟩ => ⟨S16x64, .i32⟩
  | .hbm, ⟨5, _⟩ => ⟨S1x1, .f32⟩
  | .local _ .vmem, ⟨0, _⟩ => ⟨S16x64, .i32⟩
  | .local _ .vmem, ⟨1, _⟩ => ⟨S256x16x512, .f32⟩
  | .local _ .vmem, ⟨2, _⟩ => ⟨S256x16x512, .f32⟩
  | .local _ .vmem, ⟨3, _⟩ => ⟨S1x1, .f32⟩
  | .local _ .vmem, ⟨4, _⟩ => ⟨S16x512x64, .f32⟩
  | .local _ .vmem, ⟨5, _⟩ => ⟨S256x16x65, .f32⟩
  | .local _ .vmem, ⟨6, _⟩ => ⟨S256x16x65, .f32⟩
  | .local _ .vmem, ⟨7, _⟩ => ⟨S256x16x65, .f32⟩
  | .local _ .vmem, ⟨8, _⟩ => ⟨S256x16x65, .f32⟩
  | .local _ .vmem, ⟨9, _⟩ => ⟨S256x16x65, .f32⟩
  | .local _ .vmem, ⟨10, _⟩ => ⟨S16x65, .f32⟩
  | .local _ .vmem, ⟨11, _⟩ => ⟨S16x65, .f32⟩
  | .local _ .vmem, ⟨12, _⟩ => ⟨S16x65, .f32⟩
  | .local _ .vmem, ⟨13, _⟩ => ⟨S16x1, .f32⟩
  | _, _ => ⟨S1024x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_179 : BitVec 32 := 0#32
  let c16_i32 : BitVec 32 := 16#32
  let v176 : BitVec 32 := Scalar.addi c0_i32_179 c16_i32
  let c1_i32 : BitVec 32 := 1#32
  ⟨c0_i32_179, v176, c1_i32⟩
def k0_off1 (k0_t1 : Fin k0_t1_loop.trips) (c0_i32_198 : BitVec 32) : Fin 3 → Nat :=
  let c16_i32_197 : BitVec 32 := 16#32
  let c0_i32_179 : BitVec 32 := 0#32
  let c1_i32 : BitVec 32 := 1#32
  let arg14 : BitVec 32 := Scf.iv c0_i32_179 c1_i32 k0_t1
  let v236 : BitVec 32 := Scalar.muli c16_i32_197 arg14
  let v237 : BitVec 32 := Scalar.addi v236 c0_i32_198
  let v238 : Index := Scalar.indexCast v237
  let c0_199 : Index := 0#32
  let c0_200 : Index := 0#32
  ![v238.toNat, 0, 0]
def k0_off2 (k0_t1 : Fin k0_t1_loop.trips) (c0_i32_198 : BitVec 32) : Fin 3 → Nat :=
  let c16_i32_197 : BitVec 32 := 16#32
  let c0_i32_179 : BitVec 32 := 0#32
  let c1_i32 : BitVec 32 := 1#32
  let arg14 : BitVec 32 := Scf.iv c0_i32_179 c1_i32 k0_t1
  let v236 : BitVec 32 := Scalar.muli c16_i32_197 arg14
  let v237 : BitVec 32 := Scalar.addi v236 c0_i32_198
  let v242 : Index := Scalar.indexCast v237
  let c0_203 : Index := 0#32
  let c0_204 : Index := 0#32
  ![v242.toNat, 0, 0]
def k0_off3 (k0_t1 : Fin k0_t1_loop.trips) (c0_i32_198 : BitVec 32) : Fin 3 → Nat :=
  let c16_i32_197 : BitVec 32 := 16#32
  let c0_i32_179 : BitVec 32 := 0#32
  let c1_i32 : BitVec 32 := 1#32
  let arg14 : BitVec 32 := Scf.iv c0_i32_179 c1_i32 k0_t1
  let v236 : BitVec 32 := Scalar.muli c16_i32_197 arg14
  let v237 : BitVec 32 := Scalar.addi v236 c0_i32_198
  let v244 : Index := Scalar.indexCast v237
  let c0_205 : Index := 0#32
  let c0_206 : Index := 0#32
  ![v244.toNat, 0, 0]
def k0_off4 (k0_t1 : Fin k0_t1_loop.trips) (c0_i32_198 : BitVec 32) : Fin 3 → Nat :=
  let c16_i32_197 : BitVec 32 := 16#32
  let c0_i32_179 : BitVec 32 := 0#32
  let c1_i32 : BitVec 32 := 1#32
  let arg14 : BitVec 32 := Scf.iv c0_i32_179 c1_i32 k0_t1
  let v236 : BitVec 32 := Scalar.muli c16_i32_197 arg14
  let v237 : BitVec 32 := Scalar.addi v236 c0_i32_198
  let v246 : Index := Scalar.indexCast v237
  let c0_207 : Index := 0#32
  let c0_208 : Index := 0#32
  ![v246.toNat, 0, 0]
def k0_cond2 (i : grid0.Coords) : BitVec 1 :=
  let arg0 : BitVec 32 := BitVec.ofNat 32 (i 0).val
  let c3_i32 : BitVec 32 := 3#32
  let v184 : BitVec 1 := Scalar.cmpi .eq arg0 c3_i32
  let v185 : BitVec 32 := Scalar.extui v184
  let c0_i32_185 : BitVec 32 := 0#32
  let v186 : BitVec 1 := Scalar.cmpi .ne v185 c0_i32_185
  v186

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "neg" => some ⊥
  | _ => none
-- ==== ReferenceIdeal.lean ====
abbrev S1024x16x512 : Shape := ⟨3, ![1024, 16, 512]⟩
abbrev S1024 : Shape := ⟨1, ![1024]⟩
abbrev S16 : Shape := ⟨1, ![16]⟩
abbrev S16x64 : Shape := ⟨2, ![16, 64]⟩
abbrev S_ : Shape := ⟨0, ![]⟩
abbrev S16x64x1 : Shape := ⟨3, ![16, 64, 1]⟩
abbrev S16x64x2 : Shape := ⟨3, ![16, 64, 2]⟩
abbrev S16x128 : Shape := ⟨2, ![16, 128]⟩
abbrev S16x1 : Shape := ⟨2, ![16, 1]⟩
abbrev S16x129 : Shape := ⟨2, ![16, 129]⟩
abbrev S16x2 : Shape := ⟨2, ![16, 2]⟩
abbrev S16x127 : Shape := ⟨2, ![16, 127]⟩
abbrev S1x16x512 : Shape := ⟨3, ![1, 16, 512]⟩
abbrev S16x512 : Shape := ⟨2, ![16, 512]⟩
abbrev S16x129x1 : Shape := ⟨3, ![16, 129, 1]⟩
abbrev S1 : Shape := ⟨1, ![1]⟩
abbrev S1x1x1 : Shape := ⟨3, ![1, 1, 1]⟩
abbrev S1023x16x512 : Shape := ⟨3, ![1023, 16, 512]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S1024x16x512, .f32⟩
  | 1 => ⟨S1024, .i32⟩
  | 2 => ⟨S16, .i32⟩
  | 3 => ⟨S16, .i32⟩
  | 4 => ⟨S16x64, .i32⟩
  | 5 => ⟨S_, .i32⟩
  | 6 => ⟨S16x64, .i32⟩
  | 7 => ⟨S16x64x1, .i32⟩
  | 8 => ⟨S16x64x1, .i32⟩
  | 9 => ⟨S16x64x2, .i32⟩
  | 10 => ⟨S16x128, .i32⟩
  | 11 => ⟨S_, .i32⟩
  | 12 => ⟨S16x1, .i32⟩
  | 13 => ⟨S16x129, .i32⟩
  | 14 => ⟨S_, .i1⟩
  | 15 => ⟨S16x2, .i1⟩
  | 16 => ⟨S16x127, .i32⟩
  | 17 => ⟨S_, .i32⟩
  | 18 => ⟨S16x127, .i32⟩
  | 19 => ⟨S16x127, .i1⟩
  | 20 => ⟨S16x127, .i32⟩
  | 21 => ⟨S16x127, .i32⟩
  | 22 => ⟨S16x127, .i1⟩
  | 23 => ⟨S16x127, .i1⟩
  | 24 => ⟨S16x129, .i1⟩
  | 25 => ⟨S1x16x512, .f32⟩
  | 26 => ⟨S16x512, .f32⟩
  | 27 => ⟨S_, .i32⟩
  | 28 => ⟨S16x129, .i32⟩
  | 29 => ⟨S16x129, .i1⟩
  | 30 => ⟨S_, .i32⟩
  | 31 => ⟨S16x129, .i32⟩
  | 32 => ⟨S16x129, .i32⟩
  | 33 => ⟨S16x129, .i32⟩
  | 34 => ⟨S16x129x1, .i32⟩
  | 35 => ⟨S1, .i32⟩
  | 36 => ⟨S_, .i32⟩
  | 37 => ⟨S16x129x1, .i32⟩
  | 38 => ⟨S16x129x1, .i1⟩
  | 39 => ⟨S1x1x1, .i32⟩
  | 40 => ⟨S16x129x1, .i32⟩
  | 41 => ⟨S16x129x1, .i1⟩
  | 42 => ⟨S16x129x1, .i1⟩
  | 43 => ⟨S_, .i1⟩
  | 44 => ⟨S16x129, .i1⟩
  | 45 => ⟨S16x129, .f32⟩
  | 46 => ⟨S_, .f32⟩
  | 47 => ⟨S16x129, .f32⟩
  | 48 => ⟨S16x129, .f32⟩
  | 49 => ⟨S16x2, .f32⟩
  | 50 => ⟨S_, .f32⟩
  | 51 => ⟨S16x127, .f32⟩
  | 52 => ⟨S16x129, .f32⟩
  | 53 => ⟨S_, .f32⟩
  | 54 => ⟨S16x1, .f32⟩
  | 55 => ⟨S_, .f32⟩
  | 56 => ⟨S16x2, .f32⟩
  | 57 => ⟨S1023x16x512, .f32⟩
  | 58 => ⟨S_, .i32⟩
  | 59 => ⟨S1023x16x512, .f32⟩
  | 60 => ⟨S16x129, .i32⟩
  | 61 => ⟨S16x1, .f32⟩
  | 62 => ⟨S16x2, .f32⟩
  | 63 => ⟨S16x129, .i1⟩
  | 64 => ⟨S_, .i32⟩
  | 65 => ⟨S16x129, .f32⟩
  | 66 => ⟨S_, .i32⟩
  | 67 => ⟨S_, .i1⟩
  | 68 => ⟨S_, .i32⟩
  | 69 => ⟨S_, .i32⟩
  | 70 => ⟨S1x16x512, .f32⟩
  | 71 => ⟨S16x512, .f32⟩
  | 72 => ⟨S_, .i32⟩
  | 73 => ⟨S16x129, .i32⟩
  | 74 => ⟨S16x129, .i1⟩
  | 75 => ⟨S_, .i32⟩
  | 76 => ⟨S16x129, .i32⟩
  | 77 => ⟨S16x129, .i32⟩
  | 78 => ⟨S16x129, .i32⟩
  | 79 => ⟨S16x129x1, .i32⟩
  | 80 => ⟨S1, .i32⟩
  | 81 => ⟨S_, .i32⟩
  | 82 => ⟨S16x129x1, .i32⟩
  | 83 => ⟨S16x129x1, .i1⟩
  | 84 => ⟨S1x1x1, .i32⟩
  | 85 => ⟨S16x129x1, .i32⟩
  | 86 => ⟨S16x129x1, .i1⟩
  | 87 => ⟨S16x129x1, .i1⟩
  | 88 => ⟨S_, .i1⟩
  | 89 => ⟨S16x129, .i1⟩
  | 90 => ⟨S16x129, .f32⟩
  | 91 => ⟨S_, .f32⟩
  | 92 => ⟨S16x129, .f32⟩
  | 93 => ⟨S16x129, .f32⟩
  | 94 => ⟨S16x128, .f32⟩
  | 95 => ⟨S16x129, .f32⟩
  | 96 => ⟨S16x127, .f32⟩
  | 97 => ⟨S16x129, .f32⟩
  | 98 => ⟨S_, .f32⟩
  | 99 => ⟨S_, .f32⟩
  | 100 => ⟨S16x129, .f32⟩
  | 101 => ⟨S16x129, .f32⟩
  | 102 => ⟨S16x129, .f32⟩
  | 103 => ⟨S16x129, .f32⟩
  | 104 => ⟨S_, .f32⟩
  | 105 => ⟨S16x129, .f32⟩
  | 106 => ⟨S16x129, .i1⟩
  | 107 => ⟨S_, .f32⟩
  | 108 => ⟨S_, .f32⟩
  | 109 => ⟨S16x129, .f32⟩
  | 110 => ⟨S16x129, .f32⟩
  | 111 => ⟨S16x129, .f32⟩
  | 112 => ⟨S16x129, .f32⟩
  | 113 => ⟨S16x129, .f32⟩
  | 114 => ⟨S16x129, .f32⟩
  | 115 => ⟨S16x129, .f32⟩
  | 116 => ⟨S16x129, .f32⟩
  | 117 => ⟨S16x129, .f32⟩
  | 118 => ⟨S16x129, .f32⟩
  | 119 => ⟨S16x129, .f32⟩
  | 120 => ⟨S16x129, .f32⟩
  | 121 => ⟨S16x129, .f32⟩
  | 122 => ⟨S_, .i32⟩
  | 123 => ⟨S_, .i32⟩
  | 124 => ⟨S16x1, .f32⟩
  | 125 => ⟨S16, .f32⟩
  | 126 => ⟨S16x1, .f32⟩
  | 127 => ⟨S16, .f32⟩
  | _ => ⟨S1024x16x512, .f32⟩

abbrev hbmTy0_1 (i : Nat) : BufTy := match i % 128 with
  | 0 => ⟨S16, .f32⟩
  | 1 => ⟨S_, .f32⟩
  | 2 => ⟨S16, .f32⟩
  | 3 => ⟨S16, .i1⟩
  | 4 => ⟨S_, .f32⟩
  | 5 => ⟨S_, .f32⟩
  | 6 => ⟨S16, .f32⟩
  | 7 => ⟨S16, .f32⟩
  | 8 => ⟨S16, .f32⟩
  | 9 => ⟨S16, .f32⟩
  | 10 => ⟨S16, .f32⟩
  | 11 => ⟨S16, .f32⟩
  | 12 => ⟨S16, .f32⟩
  | 13 => ⟨S16, .f32⟩
  | 14 => ⟨S16, .f32⟩
  | 15 => ⟨S_, .f32⟩
  | 16 => ⟨S_, .f32⟩
  | 17 => ⟨S_, .f32⟩
  | 18 => ⟨S1x1, .f32⟩
  | _ => ⟨S1024x16x512, .f32⟩

abbrev hbmTy (i : Nat) : BufTy := match i / 128 with
  | 0 => hbmTy0_0 i
  | 1 => hbmTy0_1 i
  | _ => ⟨S1024x16x512, .f32⟩

abbrev bufTy : (tb : Table) → Fin (tcTables nBuf tb) → BufTy
  | .hbm, ⟨i, _⟩ => hbmTy i
  | _, _ => ⟨S1024x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_cst : Ref sig .tc := ⟨.hbm, 46, rfl⟩
abbrev main_call0_v14 : Ref sig .tc := ⟨.hbm, 47, rfl⟩
abbrev main_v19 : Ref sig .tc := ⟨.hbm, 48, rfl⟩
abbrev main_v20 : Ref sig .tc := ⟨.hbm, 49, rfl⟩
abbrev main_cst : Ref sig .tc := ⟨.hbm, 50, rfl⟩
abbrev main_v21 : Ref sig .tc := ⟨.hbm, 51, rfl⟩
abbrev main_v22 : Ref sig .tc := ⟨.hbm, 52, rfl⟩
abbrev main_cst_3 : Ref sig .tc := ⟨.hbm, 53, rfl⟩
abbrev main_v23 : Ref sig .tc := ⟨.hbm, 54, rfl⟩
abbrev main_cst_4 : Ref sig .tc := ⟨.hbm, 55, rfl⟩
abbrev main_v24 : Ref sig .tc := ⟨.hbm, 56, rfl⟩
abbrev main_v25 : Ref sig .tc := ⟨.hbm, 57, rfl⟩
abbrev main_c_5 : Ref sig .tc := ⟨.hbm, 58, rfl⟩
abbrev main_v26_0 : Ref sig .tc := ⟨.hbm, 59, rfl⟩
abbrev main_v26_1 : Ref sig .tc := ⟨.hbm, 60, rfl⟩
abbrev main_v26_2 : Ref sig .tc := ⟨.hbm, 61, rfl⟩
abbrev main_v26_3 : Ref sig .tc := ⟨.hbm, 62, rfl⟩
abbrev main_v26_4 : Ref sig .tc := ⟨.hbm, 63, rfl⟩
abbrev main_v26_5 : Ref sig .tc := ⟨.hbm, 64, rfl⟩
abbrev main_v26_6 : Ref sig .tc := ⟨.hbm, 65, rfl⟩
abbrev main_while0c_c_15 : Ref sig .tc := ⟨.hbm, 66, rfl⟩
abbrev main_while0c_v45 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_v0 : Ref sig .tc := ⟨.hbm, 70, rfl⟩
abbrev main_while0b_v45 : Ref sig .tc := ⟨.hbm, 71, rfl⟩
abbrev main_while0b_call2_c : Ref sig .tc := ⟨.hbm, 72, rfl⟩
abbrev main_while0b_call2_v0 : Ref sig .tc := ⟨.hbm, 73, rfl⟩
abbrev main_while0b_call2_v1 : Ref sig .tc := ⟨.hbm, 74, rfl⟩
abbrev main_while0b_call2_c_0 : Ref sig .tc := ⟨.hbm, 75, rfl⟩
abbrev main_while0b_call2_v2 : Ref sig .tc := ⟨.hbm, 76, rfl⟩
abbrev main_while0b_call2_v3 : Ref sig .tc := ⟨.hbm, 77, rfl⟩
abbrev main_while0b_call2_v4 : Ref sig .tc := ⟨.hbm, 78, rfl⟩
abbrev main_while0b_call2_v5 : Ref sig .tc := ⟨.hbm, 79, rfl⟩
abbrev main_while0b_call2_c_1 : Ref sig .tc := ⟨.hbm, 80, rfl⟩
abbrev main_while0b_call2_c_2 : Ref sig .tc := ⟨.hbm, 81, rfl⟩
abbrev main_while0b_call2_v6 : Ref sig .tc := ⟨.hbm, 82, rfl⟩
abbrev main_while0b_call2_v7 : Ref sig .tc := ⟨.hbm, 83, rfl⟩
abbrev main_while0b_call2_v8 : Ref sig .tc := ⟨.hbm, 84, rfl⟩
abbrev main_while0b_call2_v9 : Ref sig .tc := ⟨.hbm, 85, rfl⟩
abbrev main_while0b_call2_v10 : Ref sig .tc := ⟨.hbm, 86, rfl⟩
abbrev main_while0b_call2_v11 : Ref sig .tc := ⟨.hbm, 87, rfl⟩
abbrev main_while0b_call2_c_3 : Ref sig .tc := ⟨.hbm, 88, rfl⟩
abbrev main_while0b_call2_v12 : Ref sig .tc := ⟨.hbm, 89, rfl⟩
abbrev main_while0b_call2_v13 : Ref sig .tc := ⟨.hbm, 90, rfl⟩
abbrev main_while0b_call2_cst : Ref sig .tc := ⟨.hbm, 91, rfl⟩
abbrev main_while0b_call2_v14 : Ref sig .tc := ⟨.hbm, 92, rfl⟩
abbrev main_while0b_v46 : Ref sig .tc := ⟨.hbm, 93, rfl⟩
abbrev main_while0b_v47 : Ref sig .tc := ⟨.hbm, 94, rfl⟩
abbrev main_while0b_v48 : Ref sig .tc := ⟨.hbm, 95, rfl⟩
abbrev main_while0b_v49 : Ref sig .tc := ⟨.hbm, 96, rfl⟩
abbrev main_while0b_v50 : Ref sig .tc := ⟨.hbm, 97, rfl⟩
abbrev main_while0b_cst_15 : Ref sig .tc := ⟨.hbm, 98, rfl⟩
abbrev main_while0b_call3_v0 : Ref sig .tc := ⟨.hbm, 99, rfl⟩
abbrev main_while0b_call3_v1 : Ref sig .tc := ⟨.hbm, 100, rfl⟩
abbrev main_while0b_v51 : Ref sig .tc := ⟨.hbm, 101, rfl⟩
abbrev main_while0b_v52 : Ref sig .tc := ⟨.hbm, 102, rfl⟩
abbrev main_while0b_v53 : Ref sig .tc := ⟨.hbm, 103, rfl⟩
abbrev main_while0b_cst_16 : Ref sig .tc := ⟨.hbm, 104, rfl⟩
abbrev main_while0b_v54 : Ref sig .tc := ⟨.hbm, 105, rfl⟩
abbrev main_while0b_v55 : Ref sig .tc := ⟨.hbm, 106, rfl⟩
abbrev main_while0b_cst_17 : Ref sig .tc := ⟨.hbm, 107, rfl⟩
abbrev main_while0b_call4_v0 : Ref sig .tc := ⟨.hbm, 108, rfl⟩
abbrev main_while0b_call4_v1 : Ref sig .tc := ⟨.hbm, 109, rfl⟩
abbrev main_while0b_v56 : Ref sig .tc := ⟨.hbm, 110, rfl⟩
abbrev main_while0b_v57 : Ref sig .tc := ⟨.hbm, 111, rfl⟩
abbrev main_while0b_v58 : Ref sig .tc := ⟨.hbm, 112, rfl⟩
abbrev main_while0b_v59 : Ref sig .tc := ⟨.hbm, 113, rfl⟩
abbrev main_while0b_v60 : Ref sig .tc := ⟨.hbm, 114, rfl⟩
abbrev main_while0b_v61 : Ref sig .tc := ⟨.hbm, 115, rfl⟩
abbrev main_while0b_v62 : Ref sig .tc := ⟨.hbm, 116, rfl⟩
abbrev main_while0b_v63 : Ref sig .tc := ⟨.hbm, 117, rfl⟩
abbrev main_while0b_v64 : Ref sig .tc := ⟨.hbm, 118, rfl⟩
abbrev main_while0b_v65 : Ref sig .tc := ⟨.hbm, 119, rfl⟩
abbrev main_while0b_v66 : Ref sig .tc := ⟨.hbm, 120, rfl⟩
abbrev main_while0b_v67 : Ref sig .tc := ⟨.hbm, 121, rfl⟩
abbrev main_while0b_c_18 : Ref sig .tc := ⟨.hbm, 122, rfl⟩
abbrev main_while0b_v68 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_cst_6 : Ref sig .tc := ⟨.hbm, 129, rfl⟩
abbrev main_v32 : Ref sig .tc := ⟨.hbm, 130, rfl⟩
abbrev main_v33 : Ref sig .tc := ⟨.hbm, 131, rfl⟩
abbrev main_cst_7 : Ref sig .tc := ⟨.hbm, 132, rfl⟩
abbrev main_call5_v0 : Ref sig .tc := ⟨.hbm, 133, rfl⟩
abbrev main_call5_v1 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_v40 : Ref sig .tc := ⟨.hbm, 141, rfl⟩
abbrev main_v41 : Ref sig .tc := ⟨.hbm, 142, rfl⟩
abbrev main_cst_8 : Ref sig .tc := ⟨.hbm, 143, rfl⟩
abbrev main_v42 : Ref sig .tc := ⟨.hbm, 144, rfl⟩
abbrev main_v43 : Ref sig .tc := ⟨.hbm, 145, rfl⟩
abbrev main_v44 : Ref sig .tc := ⟨.hbm, 146, rfl⟩

abbrev nD : Nat := 1
abbrev τ : Topo := Topo.v7x

variable {F : FTy → Type} [FloatOps F]

abbrev main_while0_count : Scf.Loop 32 := ⟨0#32, 1023#32, 1#32⟩
-- ==== Proof.K.RunA.lean ====
/- The body at the first grid point: it builds the one-hot table, the skip vector and the initial state, then runs its loop. -/
module

public import proofs.«01_k».proof.Proof.K.Runs

@[expose] public section

-- membership in a rectangle of production extents (`View.cover_of_tiled`): the elaborator's structural look
-- recurses once per coordinate of the long axes
set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2) at anything, handed back at some contents nothing names. -/
noncomputable def kernelRun0_A (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) :
    Σ' (LS0 : List (View.Piece (Elt F) S16x512x64 .f32)), Σ' (LS6 : List (View.Piece (Elt F) S16x65 .f32)), Σ' (LS7 : List (View.Piece (Elt F) S16x65 .f32)), Σ' (LS8 : List (View.Piece (Elt F) S16x65 .f32)), Σ' (LS9 : List (View.Piece (Elt F) S16x1 .f32)), { LT1 : List (View.Piece (Elt F) S256x16x65 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ (∃ d, owns (c : Thread nD τ) arg3 fullShare d) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LT1) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS6) ∗ (∃ f, arg11.view.loc (c : Thread nD τ) ↦[arg11.view.set]{fullShare} arg11.view.writes (Elt F) f LS7) ∗ (∃ f, arg12.view.loc (c : Thread nD τ) ↦[arg12.view.set]{fullShare} arg12.view.writes (Elt F) f LS8) ∗ (∃ f, arg13.view.loc (c : Thread nD τ) ↦[arg13.view.set]{fullShare} arg13.view.writes (Elt F) f LS9)) -∗ K ⟨⟩))
          ⊢ wp frame (wpE (defs₀ (F := F)) Variants.none c none) E (cc0__ctc_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__ctc_kernel_eq_skeleton]; unfold cc0__ctc_kernel_skel
    simp only [k0_part16_eq_skeleton, k0_part1_eq_skeleton, k0_part2_eq_skeleton, k0_part3_eq_skeleton, k0_part4_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]; · iexists _; iexact HS6
    isplitl [HS7]; · iexists _; iexact HS7
    isplitl [HS8]; · iexists _; iexact HS8
    iexists _; iexact HS9

end Cert.Kernel.Body

end
-- ==== Proof.K.RunB.lean ====
/- The body at a middle grid point: table, skip vector, state and offset come from the point before. -/
module

public import proofs.«01_k».proof.Proof.K.RunA

@[expose] public section

-- membership in a rectangle of production extents (`View.cover_of_tiled`): the elaborator's structural look
-- recurses once per coordinate of the long axes
set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2) at anything, handed back at some contents nothing names. -/
noncomputable def kernelRun0_B (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) :
    Σ' (LS0 : List (View.Piece (Elt F) S16x512x64 .f32)), Σ' (LS6 : List (View.Piece (Elt F) S16x65 .f32)), Σ' (LS7 : List (View.Piece (Elt F) S16x65 .f32)), Σ' (LS8 : List (View.Piece (Elt F) S16x65 .f32)), Σ' (LS9 : List (View.Piece (Elt F) S16x1 .f32)), { LT1 : List (View.Piece (Elt F) S256x16x65 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs6 ∗ owns (c : Thread nD τ) arg11 fullShare xs7 ∗ owns (c : Thread nD τ) arg12 fullShare xs8 ∗ owns (c : Thread nD τ) arg13 fullShare xs9
            ∗ (iprop(owns (c : Thread nD τ) arg1 fullShare x0 ∗ owns (c : Thread nD τ) arg2 fullShare x1 ∗ (∃ d, owns (c : Thread nD τ) arg3 fullShare d) ∗ owns (c : Thread nD τ) arg4 fullShare xs0 ∗ (∃ f, arg5.view.loc (c : Thread nD τ) ↦[arg5.view.set]{fullShare} arg5.view.writes (Elt F) f LT1) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS6) ∗ (∃ f, arg11.view.loc (c : Thread nD τ) ↦[arg11.view.set]{fullShare} arg11.view.writes (Elt F) f LS7) ∗ owns (c : Thread nD τ) arg12 fullShare xs8 ∗ (∃ f, arg13.view.loc (c : Thread nD τ) ↦[arg13.view.set]{fullShare} arg13.view.writes (Elt F) f LS9)) -∗ K ⟨⟩))
          ⊢ wp frame (wpE (defs₀ (F := F)) Variants.none c none) E (cc0__ctc_kernel i arg1 harg1 arg2 harg2 arg3 harg3 arg4 harg4 arg5 harg5 arg6 harg6 arg7 harg7 arg8 harg8 arg9 harg9 arg10 harg10 arg11 harg11 arg12 harg12 arg13 harg13) K } := by
  refine ⟨[], ?_, ?_, [], ?_, ?_, fun E K => ?run⟩
  case run =>
    simp only [cc0__ctc_kernel_eq_skeleton]; unfold cc0__ctc_kernel_skel
    simp only [k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%d2, %f2, -, H2⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, ⟨%fs7, %hfs7, HS7⟩, ⟨%fs8, %hfs8, HS8⟩, ⟨%fs9, %hfs9, HS9⟩, Hk⟩
    obtain rfl := harg1.eq_unread hf0; obtain rfl := harg2.eq_unread hf1; obtain rfl := harg4.eq_unread hfs0; obtain rfl := harg10.eq_unread hfs6; obtain rfl := harg11.eq_unread hfs7; obtain rfl := harg12.eq_unread hfs8; obtain rfl := harg13.eq_unread hfs9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [HS0]
    · iexists _; isplitr; · ipureintro; exact harg4.read_unread _
      iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]; · iexists _; iexact HS6
    isplitl [HS7]; · iexists _; iexact HS7
    isplitl [HS8]
    · iexists _; isplitr; · ipureintro; exact harg12.read_unread _
      iexact HS8
    iexists _; iexact HS9

end Cert.Kernel.Body

end
-- ==== Proof.K.RunC.lean ====
/- The body at the last grid point: as at a middle point, and the result is stored at the end. -/
module

public import proofs.«01_k».proof.Proof.K.RunB

@[expose] public section

-- membership in a rectangle of production extents (`View.cover_of_tiled`): the elaborator's structural look
-- recurses once per coordinate of the long axes
set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 3), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2) at anything, handed back at some contents nothing names. -/
noncomputable def kernelRun0_C (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) :
    Σ' (LS0 : List (View.Piece (Elt F) S16x512x64 .f32)), Σ' (LS6 : List (View.Piece (Elt F) S16x65 .f32)), Σ' (LS7 : List (View.Piece (Elt F) S16x65 .f32)), Σ' (LS8 : List (View.Piece (Elt F) S16x65 .f32)), Σ' (LS9 : List (View.Piece (Elt F) S16x1 .f32)), { LT1 : List (View.Piece (Elt F) S256x16x65 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs6 ∗ owns (c : Thread nD τ) arg11 fullShare xs7 ∗ owns (c : Thread nD τ) arg12 fullShare xs8 ∗ owns (c : Thread nD τ) arg13 fullShare xs9
            ∗ (iprop(owns (c : Thread nD τ) arg1 fullShare x0 ∗ owns (c : Thread nD τ) arg2 fullShare x1 ∗ (∃ d, owns (c : Thread nD τ) arg3 fullShare d) ∗ owns (c : Thread nD τ) arg4 fullShare xs0 ∗ (∃ f, arg5.view.loc (c : Thread nD τ) ↦[arg5.view.set]{fullShare} arg5.view.writes (Elt F) f LT1) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS6) ∗ (∃ f, arg11.view.loc (c : Thread nD τ) ↦[arg11.view.set]{fullShare} arg11.view.writes (Elt F) f LS7) ∗ owns (c : Thread nD τ) arg12 fullShare xs8 ∗ (∃ f, arg13.view.loc (c : Thread nD τ) ↦[arg13.view.set]{fullShare} arg13.view.writes (Elt F) f LS9)) -∗ K ⟨⟩))
          ⊢ wp frame (wpE (defs₀ (F := F)) Variants.none c none) E (cc0__ctc_kernel i arg1 harg1 arg2 harg2 arg3 harg3 arg4 harg4 arg5 harg5 arg6 harg6 arg7 harg7 arg8 harg8 arg9 harg9 arg10 harg10 arg11 harg11 arg12 harg12 arg13 harg13) K } := by
  refine ⟨[], ?_, ?_, [], ?_, ?_, fun E K => ?run⟩
  case run =>
    simp only [cc0__ctc_kernel_eq_skeleton]; unfold cc0__ctc_kernel_skel
    simp only [k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%d2, %f2, -, H2⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, ⟨%fs7, %hfs7, HS7⟩, ⟨%fs8, %hfs8, HS8⟩, ⟨%fs9, %hfs9, HS9⟩, Hk⟩
    obtain rfl := harg1.eq_unread hf0; obtain rfl := harg2.eq_unread hf1; obtain rfl := harg4.eq_unread hfs0; obtain rfl := harg10.eq_unread hfs6; obtain rfl := harg11.eq_unread hfs7; obtain rfl := harg12.eq_unread hfs8; obtain rfl := harg13.eq_unread hfs9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [HS0]
    · iexists _; isplitr; · ipureintro; exact harg4.read_unread _
      iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]; · iexists _; iexact HS6
    isplitl [HS7]; · iexists _; iexact HS7
    isplitl [HS8]
    · iexists _; isplitr; · ipureintro; exact harg12.read_unread _
      iexact HS8
    iexists _; iexact HS9

end Cert.Kernel.Body

end
-- ==== Proof.K.Frame.lean ====
/- What the output and the carried scratch hold after each grid point, the obligation of the body, the run of the whole
   program and the frame claim: the arguments are left as they were. -/
module

public import proofs.«01_k».proof.Proof.K.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg4`, which the kernel carries between points, cover it: 16 pieces of `S1x512x64` tiling it (Lib/Ring.lean `Piece.tiledL`). -/
theorem scover0_A_0 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) (y : S16x512x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).1 S1x512x64.size (by sl_kernel_rfl) y

/-- What case A leaves in scratch `arg4`: its pieces read back over junk. -/
def sout0_A_0 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) : Vec F S16x512x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).1)

/-- Case A's pieces for scratch `arg10`, which the kernel carries between points, cover it: 2 pieces of `S16x65` tiling it (Lib/Ring.lean `Piece.tiledL`). -/
theorem scover0_A_6 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) (y : S16x65.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.1 S16x65.size (by sl_kernel_rfl) y

/-- What case A leaves in scratch `arg10`: its pieces read back over junk. -/
def sout0_A_6 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) : Vec F S16x65 .f32 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.1)

/-- Case A's pieces for scratch `arg11`, which the kernel carries between points, cover it: 2 pieces of `S16x65` tiling it (Lib/Ring.lean `Piece.tiledL`). -/
theorem scover0_A_7 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) (y : S16x65.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.1 S16x65.size (by sl_kernel_rfl) y

/-- What case A leaves in scratch `arg11`: its pieces read back over junk. -/
def sout0_A_7 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) : Vec F S16x65 .f32 :=
  VS0_7.read (Elt F) (VS0_7.writes (Elt F) VS0_7.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.1)

/-- Case A's pieces for scratch `arg12`, which the kernel carries between points, cover it: 1 piece of `S16x65` tiling it (Lib/Ring.lean `Piece.tiledL`). -/
theorem scover0_A_8 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) (y : S16x65.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.1 S16x65.size (by sl_kernel_rfl) y

/-- What case A leaves in scratch `arg12`: its pieces read back over junk. -/
def sout0_A_8 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) : Vec F S16x65 .f32 :=
  VS0_8.read (Elt F) (VS0_8.writes (Elt F) VS0_8.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.1)

/-- Case A's pieces for scratch `arg13`, which the kernel carries between points, cover it: 2 pieces of `S16x1` tiling it (Lib/Ring.lean `Piece.tiledL`). -/
theorem scover0_A_9 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) (y : S16x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.2.1 S16x1.size (by sl_kernel_rfl) y

/-- What case A leaves in scratch `arg13`: its pieces read back over junk. -/
def sout0_A_9 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) : Vec F S16x1 .f32 :=
  VS0_9.read (Elt F) (VS0_9.writes (Elt F) VS0_9.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.2.1)

/-- Case B stores nothing into scratch `arg4`: it holds what the point before left. -/
def sout0_B_0 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x512x64 .f32 := xs0

/-- Case B's pieces for scratch `arg10`, which the kernel carries between points, cover it: 1 piece of `S16x65` tiling it (Lib/Ring.lean `Piece.tiledL`). -/
theorem scover0_B_6 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) (y : S16x65.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.1 S16x65.size (by sl_kernel_rfl) y

/-- What case B leaves in scratch `arg10`: its pieces read back over junk. -/
def sout0_B_6 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x65 .f32 :=
  VS0_6.read (Elt F) (VS0_6.writes (Elt F) VS0_6.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.1)

/-- Case B's pieces for scratch `arg11`, which the kernel carries between points, cover it: 1 piece of `S16x65` tiling it (Lib/Ring.lean `Piece.tiledL`). -/
theorem scover0_B_7 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) (y : S16x65.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.1 S16x65.size (by sl_kernel_rfl) y

/-- What case B leaves in scratch `arg11`: its pieces read back over junk. -/
def sout0_B_7 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x65 .f32 :=
  VS0_7.read (Elt F) (VS0_7.writes (Elt F) VS0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.1)

/-- Case B stores nothing into scratch `arg12`: it holds what the point before left. -/
def sout0_B_8 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x65 .f32 := xs8

/-- Case B's pieces for scratch `arg13`, which the kernel carries between points, cover it: 1 piece of `S16x1` tiling it (Lib/Ring.lean `Piece.tiledL`). -/
theorem scover0_B_9 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) (y : S16x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.2.1 S16x1.size (by sl_kernel_rfl) y

/-- What case B leaves in scratch `arg13`: its pieces read back over junk. -/
def sout0_B_9 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x1 .f32 :=
  VS0_9.read (Elt F) (VS0_9.writes (Elt F) VS0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.2.1)

/-- Case C stores nothing into scratch `arg4`: it holds what the point before left. -/
def sout0_C_0 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x512x64 .f32 := xs0

/-- Case C's pieces for scratch `arg10`, which the kernel carries between points, cover it: 1 piece of `S16x65` tiling it (Lib/Ring.lean `Piece.tiledL`). -/
theorem scover0_C_6 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) (y : S16x65.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.1 S16x65.size (by sl_kernel_rfl) y

/-- What case C leaves in scratch `arg10`: its pieces read back over junk. -/
def sout0_C_6 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x65 .f32 :=
  VS0_6.read (Elt F) (VS0_6.writes (Elt F) VS0_6.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.1)

/-- Case C's pieces for scratch `arg11`, which the kernel carries between points, cover it: 1 piece of `S16x65` tiling it (Lib/Ring.lean `Piece.tiledL`). -/
theorem scover0_C_7 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) (y : S16x65.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.1 S16x65.size (by sl_kernel_rfl) y

/-- What case C leaves in scratch `arg11`: its pieces read back over junk. -/
def sout0_C_7 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x65 .f32 :=
  VS0_7.read (Elt F) (VS0_7.writes (Elt F) VS0_7.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.1)

/-- Case C stores nothing into scratch `arg12`: it holds what the point before left. -/
def sout0_C_8 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x65 .f32 := xs8

/-- Case C's pieces for scratch `arg13`, which the kernel carries between points, cover it: 1 piece of `S16x1` tiling it (Lib/Ring.lean `Piece.tiledL`). -/
theorem scover0_C_9 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) (y : S16x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.2.1 S16x1.size (by sl_kernel_rfl) y

/-- What case C leaves in scratch `arg13`: its pieces read back over junk. -/
def sout0_C_9 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x1 .f32 :=
  VS0_9.read (Elt F) (VS0_9.writes (Elt F) VS0_9.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x512x64 .f32 × Vec F S16x65 .f32 × Vec F S16x65 .f32 × Vec F S16x65 .f32 × Vec F S16x1 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by have hN : n + 1 < 4 := lt_of_lt_of_eq hn (show cfg0.N = 4 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 4 = 0) (h1 : ¬t.val % 4 = 3) :
    outsAt0 m c t.val t.isLt = (sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_6 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_7 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_8 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_9 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 m c t.val t.isLt = (sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_6 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_7 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_8 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_9 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 m c t.val t.isLt = (sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_6 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_7 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_8 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_9 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.1) ∗ owns (c : Thread nD τ) scM0_7 fullShare ((outsAt0 m c n hn).2.2.1) ∗ owns (c : Thread nD τ) scM0_8 fullShare ((outsAt0 m c n hn).2.2.2.1) ∗ owns (c : Thread nD τ) scM0_9 fullShare ((outsAt0 m c n hn).2.2.2.2)) ∗ (∃ r, prngReg c r))

/-- Before the first point nothing of the scratch buffers is known. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.1) ∗ owns (c : Thread nD τ) scM0_7 fullShare ((outsAt0 m c n hn).2.2.1) ∗ owns (c : Thread nD τ) scM0_8 fullShare ((outsAt0 m c n hn).2.2.2.1) ∗ owns (c : Thread nD τ) scM0_9 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).2.1) ∗ owns (c : Thread nD τ) scM0_7 fullShare ((outsAt0 m c (n - 1) (by omega)).2.2.1) ∗ owns (c : Thread nD τ) scM0_8 fullShare ((outsAt0 m c (n - 1) (by omega)).2.2.2.1) ∗ owns (c : Thread nD τ) scM0_9 fullShare ((outsAt0 m c (n - 1) (by omega)).2.2.2.2)) ∗ (∃ r, prngReg c r)) := by
  cases n with
  | zero => exact absurd rfl hz
  | succ n => rfl

/-! ## The pipeline's proof data -/

/-- The output windows this certificate FORGETS (2): nothing reads what the kernel leaves in them, so nothing
    of it is named (Lib/Pipeline/Dat.lean `Dat.toRForget`). -/
def forgets0 : Fin 3 → Bool := fun w => w.val == 2

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- The log-probabilities' block after a point is the array's block. -/
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The log-probabilities' block before a point is the array's block. -/
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      by_cases hz : t.val = 0
      · rw [PhiS_castSucc m c t, PhiS_zero m c _ _ hz, PhiA0_eq]
        rw [outsAt0_A m c t h0 h1]
        unfold sout0_A_0 sout0_A_6 sout0_A_7 sout0_A_8 sout0_A_9; (try dsimp only)
        iintro ⟨⟨⟨HS0, HS1, HS2, HS3, HS4, HS5, HS6, HS7, HS8, HS9⟩, Hg⟩, Ho, ⟨%d0, H0⟩, ⟨%d1, H1⟩, ⟨%d2, H2⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t)).2.2.2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        iintro ⟨H0, H1, H2, ⟨%es0, HS0⟩, ⟨%fT1, HS1⟩, HS2, HS3, HS4, HS5, ⟨%es6, HS6⟩, ⟨%es7, HS7⟩, ⟨%es8, HS8⟩, ⟨%es9, HS9⟩⟩
        isplitl [HS0 HS1 HS2 HS3 HS4 HS5 HS6 HS7 HS8 HS9 Hg]
        · isplitl [HS0 HS1 HS2 HS3 HS4 HS5 HS6 HS7 HS8 HS9]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexact HS2
            isplitl [HS3]
            · iexact HS3
            isplitl [HS4]
            · iexact HS4
            isplitl [HS5]
            · iexact HS5
            isplitl [HS6]
            · unfold owns; iexists _; isplitr
              swap; · iexact HS6
              ipureintro; exact View.read_writes_of_cover _ _ _ _ _ (scover0_A_6 c _ _ _ _ _ _ _ _ _ _ _ _ _ _ _ _ _ _ _ _ _ _ _ _ _ _ _ _ _ _ _)
            isplitl [HS7]
            · unfold owns; iexists _; isplitr
              swap; · iexact HS7
              ipureintro; exact View.read_writes_of_cover _ _ _ _ _ (scover0_A_7 c _ _ _ _ _ _ _ _ _ _ _ _ _ _ _ _ _ _ _ _ _ _ _ _ _ _ _ _ _ _ _)
            isplitl [HS8]
            · unfold owns; iexists _; isplitr
              swap; · iexact HS8
              ipureintro; exact View.read_writes_of_cover _ _ _ _ _ (scover0_A_8 c _ _ _ _ _ _ _ _ _ _ _ _ _ _ _ _ _ _ _ _ _ _ _ _ _ _ _ _ _ _ _)
            unfold owns; iexists _; isplitr
            swap; · iexact HS9
            ipureintro; exact View.read_writes_of_cover _ _ _ _ _ (scover0_A_9 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        iexact H2
      · exfalso; have hN : t.val < 4 := lt_of_lt_of_eq t.isLt (show cfg0.N = 4 from N_0); omega
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      by_cases hz : t.val = 0
      · exfalso; have hN : t.val < 4 := lt_of_lt_of_eq t.isLt (show cfg0.N = 4 from N_0); omega
      · rw [PhiS_castSucc m c t, PhiS_pos m c _ _ hz]
        rw [outsAt0_C m c t h0 h1]
        unfold sout0_C_0 sout0_C_6 sout0_C_7 sout0_C_8 sout0_C_9; (try dsimp only)
        iintro ⟨⟨⟨HS0, HS1, HS2, HS3, HS4, HS5, HS6, HS7, HS8, HS9⟩, Hg⟩, Ho, ⟨%d0, H0⟩, ⟨%d1, H1⟩, ⟨%d2, H2⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) _ _ _ _ _).2.2.2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        iintro ⟨H0, H1, H2, HS0, ⟨%fT1, HS1⟩, HS2, HS3, HS4, HS5, ⟨%es6, HS6⟩, ⟨%es7, HS7⟩, HS8, ⟨%es9, HS9⟩⟩
        isplitl [HS0 HS1 HS2 HS3 HS4 HS5 HS6 HS7 HS8 HS9 Hg]
        · isplitl [HS0 HS1 HS2 HS3 HS4 HS5 HS6 HS7 HS8 HS9]
          · isplitl [HS0]
            · iexact HS0
            isplitl [HS1]
            · iexists _; unfold owns; iexists _; isplitr
              swap; · iexact HS1
              ipureintro; rfl
            isplitl [HS2]
            · iexact HS2
            isplitl [HS3]
            · iexact HS3
            isplitl [HS4]
            · iexact HS4
            isplitl [HS5]
            · iexact HS5
            isplitl [HS6]
            · unfold owns; iexists _; isplitr
              swap; · iexact HS6
              ipureintro; exact View.read_writes_of_cover _ _ _ _ _ (scover0_C_6 c _ _ _ _ _ _ _ _ _ _ _ _ _ _ _ _ _ _ _ _ _ _ _ _ _ _ _ _ _ _ _ _ _ _ _ _)
            isplitl [HS7]
            · unfold owns; iexists _; isplitr
              swap; · iexact HS7
              ipureintro; exact View.read_writes_of_cover _ _ _ _ _ (scover0_C_7 c _ _ _ _ _ _ _ _ _ _ _ _ _ _ _ _ _ _ _ _ _ _ _ _ _ _ _ _ _ _ _ _ _ _ _ _)
            isplitl [HS8]
            · iexact HS8
            unfold owns; iexists _; isplitr
            swap; · iexact HS9
            ipureintro; exact View.read_writes_of_cover _ _ _ _ _ (scover0_C_9 c _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        iexact H2
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      by_cases hz : t.val = 0
      · exfalso; have hN : t.val < 4 := lt_of_lt_of_eq t.isLt (show cfg0.N = 4 from N_0); omega
      · rw [PhiS_castSucc m c t, PhiS_pos m c _ _ hz]
        rw [outsAt0_B m c t h0 h1]
        unfold sout0_B_0 sout0_B_6 sout0_B_7 sout0_B_8 sout0_B_9; (try dsimp only)
        iintro ⟨⟨⟨HS0, HS1, HS2, HS3, HS4, HS5, HS6, HS7, HS8, HS9⟩, Hg⟩, Ho, ⟨%d0, H0⟩, ⟨%d1, H1⟩, ⟨%d2, H2⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) _ _ _ _ _).2.2.2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        iintro ⟨H0, H1, H2, HS0, ⟨%fT1, HS1⟩, HS2, HS3, HS4, HS5, ⟨%es6, HS6⟩, ⟨%es7, HS7⟩, HS8, ⟨%es9, HS9⟩⟩
        isplitl [HS0 HS1 HS2 HS3 HS4 HS5 HS6 HS7 HS8 HS9 Hg]
        · isplitl [HS0 HS1 HS2 HS3 HS4 HS5 HS6 HS7 HS8 HS9]
          · isplitl [HS0]
            · iexact HS0
            isplitl [HS1]
            · iexists _; unfold owns; iexists _; isplitr
              swap; · iexact HS1
              ipureintro; rfl
            isplitl [HS2]
            · iexact HS2
            isplitl [HS3]
            · iexact HS3
            isplitl [HS4]
            · iexact HS4
            isplitl [HS5]
            · iexact HS5
            isplitl [HS6]
            · unfold owns; iexists _; isplitr
              swap; · iexact HS6
              ipureintro; exact View.read_writes_of_cover _ _ _ _ _ (scover0_B_6 c _ _ _ _ _ _ _ _ _ _ _ _ _ _ _ _ _ _ _ _ _ _ _ _ _ _ _ _ _ _ _ _ _ _ _ _)
            isplitl [HS7]
            · unfold owns; iexists _; isplitr
              swap; · iexact HS7
              ipureintro; exact View.read_writes_of_cover _ _ _ _ _ (scover0_B_7 c _ _ _ _ _ _ _ _ _ _ _ _ _ _ _ _ _ _ _ _ _ _ _ _ _ _ _ _ _ _ _ _ _ _ _ _)
            isplitl [HS8]
            · iexact HS8
            unfold owns; iexists _; isplitr
            swap; · iexact HS9
            ipureintro; exact View.read_writes_of_cover _ _ _ _ _ (scover0_B_9 c _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    isplitl [HS6]
    · iexists _; iexact HS6
    isplitl [HS7]
    · iexists _; iexact HS7
    isplitl [HS8]
    · iexists _; iexact HS8
    iexists _; iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 4 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the mesh of the program, for any values, from any memory with zero counters: every weakly fair execution of @main on the
    TensorCores terminates, and every final state has every INPUT array of the pipeline unchanged, nothing stated of the
    FORGOTTEN outputs (window 2) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Body

end
-- ==== Proof.KI.Runs.lean ====
/- What the runs of the kernel's body share: the arrays as the region finds them, the blocks the windows stage, the
   conditions of the two branches in closed form over the grid points, and the scratch buffers the kernel carries from one
   grid point to the next — among them the vector of allowed skips, stored at the first point and read at every point. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 1).trans (((dats 0 c).arrAt_in 1 rfl _).trans ((hA c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

/-- One staging buffer of output window 2, through which its contents are stated (`View.read_writes_of_cover`: the
    choice does not matter). -/
abbrev VO0_2 : View sig .tc .vmem S1x1 .f32 := (Memref.whole cc0_stg2_0 : Memref sig .tc .vmem S1x1 .f32).view
/-- Each window's current staging memref at point `t`, spelled as the pipeline passes it (`bodyAt0`), and its wholeness. -/
abbrev ms0_0 (t : Fin cfg0.N) : Memref sig .tc .vmem S16x64 .i32 := win0_0.stage (cfg0.slots t 0)
/-- The labels' staged block is a whole buffer. -/
abbrev hs0_0 (t : Fin cfg0.N) : (ms0_0 t).IsWhole := hstage0_0 ((cfg0.slots t 0).cast nbuf0_0)
/-- The log-probabilities' staged block at a point. -/
abbrev ms0_1 (t : Fin cfg0.N) : Memref sig .tc .vmem S256x16x512 .f32 := win0_1.stage (cfg0.slots t 1)
/-- The log-probabilities' staged block is a whole buffer. -/
abbrev hs0_1 (t : Fin cfg0.N) : (ms0_1 t).IsWhole := hstage0_1 ((cfg0.slots t 1).cast nbuf0_1)
/-- The result's staged block at a point. -/
abbrev ms0_2 (t : Fin cfg0.N) : Memref sig .tc .vmem S1x1 .f32 := win0_2.stage (cfg0.slots t 2)
/-- The result's staged block is a whole buffer. -/
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x512x64 .f32 := Memref.whole cc0_scratch0
/-- The label entries' scratch buffer. -/
abbrev scM0_1 : Memref sig .tc .vmem S256x16x65 .f32 := Memref.whole cc0_scratch1
/-- The once shifted entries' scratch buffer. -/
abbrev scM0_2 : Memref sig .tc .vmem S256x16x65 .f32 := Memref.whole cc0_scratch2
/-- The twice shifted entries' scratch buffer. -/
abbrev scM0_3 : Memref sig .tc .vmem S256x16x65 .f32 := Memref.whole cc0_scratch3
/-- The thrice shifted entries' scratch buffer. -/
abbrev scM0_4 : Memref sig .tc .vmem S256x16x65 .f32 := Memref.whole cc0_scratch4
/-- The blank entries' scratch buffer. -/
abbrev scM0_5 : Memref sig .tc .vmem S256x16x65 .f32 := Memref.whole cc0_scratch5
/-- The even states' references' scratch buffer. -/
abbrev scM0_6 : Memref sig .tc .vmem S16x65 .f32 := Memref.whole cc0_scratch6
/-- The odd states' references' scratch buffer. -/
abbrev scM0_7 : Memref sig .tc .vmem S16x65 .f32 := Memref.whole cc0_scratch7
/-- The skips' scratch buffer. -/
abbrev scM0_8 : Memref sig .tc .vmem S16x65 .f32 := Memref.whole cc0_scratch8
/-- The accumulated logarithms' scratch buffer. -/
abbrev scM0_9 : Memref sig .tc .vmem S16x1 .f32 := Memref.whole cc0_scratch9
/-- The scratch `arg4` the kernel carries between points, as a view: what it holds is stated through it. -/
abbrev VS0_0 : View sig .tc .vmem S16x512x64 .f32 := scM0_0.view
/-- The scratch `arg10` the kernel carries between points, as a view: what it holds is stated through it. -/
abbrev VS0_6 : View sig .tc .vmem S16x65 .f32 := scM0_6.view
/-- The scratch `arg11` the kernel carries between points, as a view: what it holds is stated through it. -/
abbrev VS0_7 : View sig .tc .vmem S16x65 .f32 := scM0_7.view
/-- The scratch `arg12` the kernel carries between points, as a view: what it holds is stated through it. -/
abbrev VS0_8 : View sig .tc .vmem S16x65 .f32 := scM0_8.view
/-- The scratch `arg13` the kernel carries between points, as a view: what it holds is stated through it. -/
abbrev VS0_9 : View sig .tc .vmem S16x1 .f32 := scM0_9.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.KernelIdeal.Body

end
-- ==== Proof.KI.RunA.lean ====
/- The body at the first grid point: it builds the one-hot table, the skip vector and the initial state, then runs its loop. -/
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) :
    Σ' (L2 : List (View.Piece (Elt F) S1x1 .f32)), Σ' (LS0 : List (View.Piece (Elt F) S16x512x64 .f32)), Σ' (LS6 : List (View.Piece (Elt F) S16x65 .f32)), Σ' (LS7 : List (View.Piece (Elt F) S16x65 .f32)), Σ' (LS8 : List (View.Piece (Elt F) S16x65 .f32)), Σ' (LS9 : List (View.Piece (Elt F) S16x1 .f32)), { LT1 : List (View.Piece (Elt F) S256x16x65 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LT1) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS6) ∗ (∃ f, arg11.view.loc (c : Thread nD τ) ↦[arg11.view.set]{fullShare} arg11.view.writes (Elt F) f LS7) ∗ (∃ f, arg12.view.loc (c : Thread nD τ) ↦[arg12.view.set]{fullShare} arg12.view.writes (Elt F) f LS8) ∗ (∃ f, arg13.view.loc (c : Thread nD τ) ↦[arg13.view.set]{fullShare} arg13.view.writes (Elt F) f LS9)) -∗ K ⟨⟩))
          ⊢ wp frame (wpE (defs₀ (F := F)) Variants.none c none) E (cc0__ctc_kernel i arg1 harg1 arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, ?_, ?_, fun xi2 E K => ?run⟩
  case run =>
    simp only [cc0__ctc_kernel_eq_skeleton]; unfold cc0__ctc_kernel_skel
    simp only [k0_part16_eq_skeleton, k0_part1_eq_skeleton, k0_part2_eq_skeleton, k0_part3_eq_skeleton, k0_part4_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]; · iexists _; iexact HS6
    isplitl [HS7]; · iexists _; iexact HS7
    isplitl [HS8]; · iexists _; iexact HS8
    iexists _; iexact HS9

end Cert.KernelIdeal.Body

end
-- ==== Proof.KI.RunB.lean ====
/- The body at a middle grid point: table, skip vector, state and offset come from the point before. -/
module

public import proofs.«01_k».proof.Proof.KI.RunA

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) :
    Σ' (L2 : List (View.Piece (Elt F) S1x1 .f32)), Σ' (LS0 : List (View.Piece (Elt F) S16x512x64 .f32)), Σ' (LS6 : List (View.Piece (Elt F) S16x65 .f32)), Σ' (LS7 : List (View.Piece (Elt F) S16x65 .f32)), Σ' (LS8 : List (View.Piece (Elt F) S16x65 .f32)), Σ' (LS9 : List (View.Piece (Elt F) S16x1 .f32)), { LT1 : List (View.Piece (Elt F) S256x16x65 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs6 ∗ owns (c : Thread nD τ) arg11 fullShare xs7 ∗ owns (c : Thread nD τ) arg12 fullShare xs8 ∗ owns (c : Thread nD τ) arg13 fullShare xs9
            ∗ (iprop(owns (c : Thread nD τ) arg1 fullShare x0 ∗ owns (c : Thread nD τ) arg2 fullShare x1 ∗ owns (c : Thread nD τ) arg3 fullShare xi2 ∗ owns (c : Thread nD τ) arg4 fullShare xs0 ∗ (∃ f, arg5.view.loc (c : Thread nD τ) ↦[arg5.view.set]{fullShare} arg5.view.writes (Elt F) f LT1) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS6) ∗ (∃ f, arg11.view.loc (c : Thread nD τ) ↦[arg11.view.set]{fullShare} arg11.view.writes (Elt F) f LS7) ∗ owns (c : Thread nD τ) arg12 fullShare xs8 ∗ (∃ f, arg13.view.loc (c : Thread nD τ) ↦[arg13.view.set]{fullShare} arg13.view.writes (Elt F) f LS9)) -∗ K ⟨⟩))
          ⊢ wp frame (wpE (defs₀ (F := F)) Variants.none c none) E (cc0__ctc_kernel i arg1 harg1 arg2 harg2 arg3 harg3 arg4 harg4 arg5 harg5 arg6 harg6 arg7 harg7 arg8 harg8 arg9 harg9 arg10 harg10 arg11 harg11 arg12 harg12 arg13 harg13) K } := by
  refine ⟨[], [], ?_, ?_, [], ?_, ?_, fun xi2 E K => ?run⟩
  case run =>
    simp only [cc0__ctc_kernel_eq_skeleton]; unfold cc0__ctc_kernel_skel
    simp only [k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, ⟨%fs7, %hfs7, HS7⟩, ⟨%fs8, %hfs8, HS8⟩, ⟨%fs9, %hfs9, HS9⟩, Hk⟩
    obtain rfl := harg1.eq_unread hf0; obtain rfl := harg2.eq_unread hf1; obtain rfl := harg3.eq_unread hf2; obtain rfl := harg4.eq_unread hfs0; obtain rfl := harg10.eq_unread hfs6; obtain rfl := harg11.eq_unread hfs7; obtain rfl := harg12.eq_unread hfs8; obtain rfl := harg13.eq_unread hfs9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]
    · iexists _; isplitr; · ipureintro; exact harg4.read_unread _
      iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]; · iexists _; iexact HS6
    isplitl [HS7]; · iexists _; iexact HS7
    isplitl [HS8]
    · iexists _; isplitr; · ipureintro; exact harg12.read_unread _
      iexact HS8
    iexists _; iexact HS9

end Cert.KernelIdeal.Body

end
-- ==== Proof.KI.RunC.lean ====
/- The body at the last grid point: as at a middle point, and the result is stored at the end. -/
module

public import proofs.«01_k».proof.Proof.KI.RunB

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 3), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) :
    Σ' (L2 : List (View.Piece (Elt F) S1x1 .f32)), Σ' (LS0 : List (View.Piece (Elt F) S16x512x64 .f32)), Σ' (LS6 : List (View.Piece (Elt F) S16x65 .f32)), Σ' (LS7 : List (View.Piece (Elt F) S16x65 .f32)), Σ' (LS8 : List (View.Piece (Elt F) S16x65 .f32)), Σ' (LS9 : List (View.Piece (Elt F) S16x1 .f32)), { LT1 : List (View.Piece (Elt F) S256x16x65 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs6 ∗ owns (c : Thread nD τ) arg11 fullShare xs7 ∗ owns (c : Thread nD τ) arg12 fullShare xs8 ∗ owns (c : Thread nD τ) arg13 fullShare xs9
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xs0 ∗ (∃ f, arg5.view.loc (c : Thread nD τ) ↦[arg5.view.set]{fullShare} arg5.view.writes (Elt F) f LT1) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS6) ∗ (∃ f, arg11.view.loc (c : Thread nD τ) ↦[arg11.view.set]{fullShare} arg11.view.writes (Elt F) f LS7) ∗ owns (c : Thread nD τ) arg12 fullShare xs8 ∗ (∃ f, arg13.view.loc (c : Thread nD τ) ↦[arg13.view.set]{fullShare} arg13.view.writes (Elt F) f LS9)) -∗ K ⟨⟩))
          ⊢ wp frame (wpE (defs₀ (F := F)) Variants.none c none) E (cc0__ctc_kernel i arg1 harg1 arg2 harg2 arg3 harg3 arg4 harg4 arg5 harg5 arg6 harg6 arg7 harg7 arg8 harg8 arg9 harg9 arg10 harg10 arg11 harg11 arg12 harg12 arg13 harg13) K } := by
  refine ⟨?_, [], ?_, ?_, [], ?_, ?_, fun E K => ?run⟩
  case run =>
    simp only [cc0__ctc_kernel_eq_skeleton]; unfold cc0__ctc_kernel_skel
    simp only [k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%d2, %f2, -, H2⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, ⟨%fs7, %hfs7, HS7⟩, ⟨%fs8, %hfs8, HS8⟩, ⟨%fs9, %hfs9, HS9⟩, Hk⟩
    obtain rfl := harg1.eq_unread hf0; obtain rfl := harg2.eq_unread hf1; obtain rfl := harg4.eq_unread hfs0; obtain rfl := harg10.eq_unread hfs6; obtain rfl := harg11.eq_unread hfs7; obtain rfl := harg12.eq_unread hfs8; obtain rfl := harg13.eq_unread hfs9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]
    · iexists _; isplitr; · ipureintro; exact harg4.read_unread _
      iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]; · iexists _; iexact HS6
    isplitl [HS7]; · iexists _; iexact HS7
    isplitl [HS8]
    · iexists _; isplitr; · ipureintro; exact harg12.read_unread _
      iexact HS8
    iexists _; iexact HS9

end Cert.KernelIdeal.Body

end
-- ==== Proof.KI.Frame.lean ====
/- What the output and the carried scratch hold after each grid point, the obligation of the body, the run of the whole
   program and the frame claim: the arguments are left as they were. -/
module

public import proofs.«01_k».proof.Proof.KI.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) : Vec F S1x1 .f32 :=
  VO0_2.read (Elt F) (VO0_2.writes (Elt F) VO0_2.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).1)

/-- Case A's pieces for scratch `arg4`, which the kernel carries between points, cover it: 16 pieces of `S1x512x64` tiling it (Lib/Ring.lean `Piece.tiledL`). -/
theorem scover0_A_0 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) (y : S16x512x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.1 S1x512x64.size (by sl_kernel_rfl) y

/-- What case A leaves in scratch `arg4`: its pieces read back over junk. -/
def sout0_A_0 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) : Vec F S16x512x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.1)

/-- Case A's pieces for scratch `arg10`, which the kernel carries between points, cover it: 2 pieces of `S16x65` tiling it (Lib/Ring.lean `Piece.tiledL`). -/
theorem scover0_A_6 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) (y : S16x65.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.1 S16x65.size (by sl_kernel_rfl) y

/-- What case A leaves in scratch `arg10`: its pieces read back over junk. -/
def sout0_A_6 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) : Vec F S16x65 .f32 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.1)

/-- Case A's pieces for scratch `arg11`, which the kernel carries between points, cover it: 2 pieces of `S16x65` tiling it (Lib/Ring.lean `Piece.tiledL`). -/
theorem scover0_A_7 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) (y : S16x65.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.1 S16x65.size (by sl_kernel_rfl) y

/-- What case A leaves in scratch `arg11`: its pieces read back over junk. -/
def sout0_A_7 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) : Vec F S16x65 .f32 :=
  VS0_7.read (Elt F) (VS0_7.writes (Elt F) VS0_7.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.1)

/-- Case A's pieces for scratch `arg12`, which the kernel carries between points, cover it: 1 piece of `S16x65` tiling it (Lib/Ring.lean `Piece.tiledL`). -/
theorem scover0_A_8 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) (y : S16x65.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.2.1 S16x65.size (by sl_kernel_rfl) y

/-- What case A leaves in scratch `arg12`: its pieces read back over junk. -/
def sout0_A_8 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) : Vec F S16x65 .f32 :=
  VS0_8.read (Elt F) (VS0_8.writes (Elt F) VS0_8.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.2.1)

/-- Case A's pieces for scratch `arg13`, which the kernel carries between points, cover it: 2 pieces of `S16x1` tiling it (Lib/Ring.lean `Piece.tiledL`). -/
theorem scover0_A_9 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) (y : S16x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.2.2.1 S16x1.size (by sl_kernel_rfl) y

/-- What case A leaves in scratch `arg13`: its pieces read back over junk. -/
def sout0_A_9 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : cond0_0 i) (hc1 : ¬cond0_1 i)
    (x0 : Vec F S16x64 .i32) (x1 : Vec F S256x16x512 .f32) : Vec F S16x1 .f32 :=
  VS0_9.read (Elt F) (VS0_9.writes (Elt F) VS0_9.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1).2.2.2.2.2.1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S1x1 .f32 :=
  VO0_2.read (Elt F) (VO0_2.writes (Elt F) VO0_2.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).1)

/-- Case B stores nothing into scratch `arg4`: it holds what the point before left. -/
def sout0_B_0 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x512x64 .f32 := xs0

/-- Case B's pieces for scratch `arg10`, which the kernel carries between points, cover it: 1 piece of `S16x65` tiling it (Lib/Ring.lean `Piece.tiledL`). -/
theorem scover0_B_6 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) (y : S16x65.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.1 S16x65.size (by sl_kernel_rfl) y

/-- What case B leaves in scratch `arg10`: its pieces read back over junk. -/
def sout0_B_6 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x65 .f32 :=
  VS0_6.read (Elt F) (VS0_6.writes (Elt F) VS0_6.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.1)

/-- Case B's pieces for scratch `arg11`, which the kernel carries between points, cover it: 1 piece of `S16x65` tiling it (Lib/Ring.lean `Piece.tiledL`). -/
theorem scover0_B_7 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) (y : S16x65.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.1 S16x65.size (by sl_kernel_rfl) y

/-- What case B leaves in scratch `arg11`: its pieces read back over junk. -/
def sout0_B_7 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x65 .f32 :=
  VS0_7.read (Elt F) (VS0_7.writes (Elt F) VS0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.1)

/-- Case B stores nothing into scratch `arg12`: it holds what the point before left. -/
def sout0_B_8 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x65 .f32 := xs8

/-- Case B's pieces for scratch `arg13`, which the kernel carries between points, cover it: 1 piece of `S16x1` tiling it (Lib/Ring.lean `Piece.tiledL`). -/
theorem scover0_B_9 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) (y : S16x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.2.2.1 S16x1.size (by sl_kernel_rfl) y

/-- What case B leaves in scratch `arg13`: its pieces read back over junk. -/
def sout0_B_9 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : ¬cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x1 .f32 :=
  VS0_9.read (Elt F) (VS0_9.writes (Elt F) VS0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.2.2.1)

/-- Case C's pieces for output 2 tile its block (1 store of `S1x1`, checked by the kernel's evaluation: Lib/Ring.lean `Piece.tiledL`, linear in the pieces, through a loop's `@[irreducible]` trip theorem too), so they cover it. -/
theorem cover0_C_2 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) (y : S1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).1 S1x1.size (by sl_kernel_rfl) y

/-- What case C leaves in output 2's staging buffer: its pieces read back over junk. -/
def out0_C_2 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S1x1 .f32 :=
  VO0_2.read (Elt F) (VO0_2.writes (Elt F) VO0_2.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).1)

/-- Case C stores nothing into scratch `arg4`: it holds what the point before left. -/
def sout0_C_0 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x512x64 .f32 := xs0

/-- Case C's pieces for scratch `arg10`, which the kernel carries between points, cover it: 1 piece of `S16x65` tiling it (Lib/Ring.lean `Piece.tiledL`). -/
theorem scover0_C_6 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) (y : S16x65.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.1 S16x65.size (by sl_kernel_rfl) y

/-- What case C leaves in scratch `arg10`: its pieces read back over junk. -/
def sout0_C_6 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x65 .f32 :=
  VS0_6.read (Elt F) (VS0_6.writes (Elt F) VS0_6.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.1)

/-- Case C's pieces for scratch `arg11`, which the kernel carries between points, cover it: 1 piece of `S16x65` tiling it (Lib/Ring.lean `Piece.tiledL`). -/
theorem scover0_C_7 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) (y : S16x65.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.1 S16x65.size (by sl_kernel_rfl) y

/-- What case C leaves in scratch `arg11`: its pieces read back over junk. -/
def sout0_C_7 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x65 .f32 :=
  VS0_7.read (Elt F) (VS0_7.writes (Elt F) VS0_7.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.1)

/-- Case C stores nothing into scratch `arg12`: it holds what the point before left. -/
def sout0_C_8 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x65 .f32 := xs8

/-- Case C's pieces for scratch `arg13`, which the kernel carries between points, cover it: 1 piece of `S16x1` tiling it (Lib/Ring.lean `Piece.tiledL`). -/
theorem scover0_C_9 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) (y : S16x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.2.2.1 S16x1.size (by sl_kernel_rfl) y

/-- What case C leaves in scratch `arg13`: its pieces read back over junk. -/
def sout0_C_9 (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬cond0_0 i) (hc1 : cond0_1 i)
    (x0 : Vec F S16x64 .i32) (x1 : Vec F S256x16x512 .f32) (xs0 : Vec F S16x512x64 .f32) (xs6 : Vec F S16x65 .f32) (xs7 : Vec F S16x65 .f32) (xs8 : Vec F S16x65 .f32) (xs9 : Vec F S16x1 .f32) : Vec F S16x1 .f32 :=
  VS0_9.read (Elt F) (VS0_9.writes (Elt F) VS0_9.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S16x512x64 .f32 × Vec F S16x65 .f32 × Vec F S16x65 .f32 × Vec F S16x65 .f32 × Vec F S16x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by have hN : n + 1 < 4 := lt_of_lt_of_eq hn (show cfg0.N = 4 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_6 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_7 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_8 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_9 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_6 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_7 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_8 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_9 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_6 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_7 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_8 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_9 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.1) ∗ owns (c : Thread nD τ) scM0_7 fullShare ((outsAt0 m c n hn).2.2.2.1) ∗ owns (c : Thread nD τ) scM0_8 fullShare ((outsAt0 m c n hn).2.2.2.2.1) ∗ owns (c : Thread nD τ) scM0_9 fullShare ((outsAt0 m c n hn).2.2.2.2.2)) ∗ (∃ r, prngReg c r))

/-- Before the first point nothing of the scratch buffers is known. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.1) ∗ owns (c : Thread nD τ) scM0_7 fullShare ((outsAt0 m c n hn).2.2.2.1) ∗ owns (c : Thread nD τ) scM0_8 fullShare ((outsAt0 m c n hn).2.2.2.2.1) ∗ owns (c : Thread nD τ) scM0_9 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).2.2.1) ∗ owns (c : Thread nD τ) scM0_7 fullShare ((outsAt0 m c (n - 1) (by omega)).2.2.2.1) ∗ owns (c : Thread nD τ) scM0_8 fullShare ((outsAt0 m c (n - 1) (by omega)).2.2.2.2.1) ∗ owns (c : Thread nD τ) scM0_9 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- The log-probabilities' block after a point is the array's block. -/
theorem after0_1 (c : Dev nD) (t : Fin cfg0.N) : (dats m 0 c).after 1 t = iblk m c 1 t := by dsimp only [dats]
/-- The result's block after a point is what the point leaves there. -/
theorem after0_2 (c : Dev nD) (t : Fin cfg0.N) : (dats m 0 c).after 2 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The log-probabilities' block before a point is the array's block. -/
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_6 sout0_A_7 sout0_A_8 sout0_A_9; (try dsimp only)
        iintro ⟨⟨⟨HS0, HS1, HS2, HS3, HS4, HS5, HS6, HS7, HS8, HS9⟩, Hg⟩, Ho, ⟨%d0, H0⟩, ⟨%d1, H1⟩, ⟨%d2, H2⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t)).2.2.2.2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        iintro ⟨H0, H1, H2, ⟨%es0, HS0⟩, ⟨%fT1, HS1⟩, HS2, HS3, HS4, HS5, ⟨%es6, HS6⟩, ⟨%es7, HS7⟩, ⟨%es8, HS8⟩, ⟨%es9, HS9⟩⟩
        isplitl [HS0 HS1 HS2 HS3 HS4 HS5 HS6 HS7 HS8 HS9 Hg]
        · isplitl [HS0 HS1 HS2 HS3 HS4 HS5 HS6 HS7 HS8 HS9]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexact HS2
            isplitl [HS3]
            · iexact HS3
            isplitl [HS4]
            · iexact HS4
            isplitl [HS5]
            · iexact HS5
            isplitl [HS6]
            · unfold owns; iexists _; isplitr
              swap; · iexact HS6
              ipureintro; exact View.read_writes_of_cover _ _ _ _ _ (scover0_A_6 c _ _ _ _ _ _ _ _ _ _ _ _ _ _ _ _ _ _ _ _ _ _ _ _ _ _ _ _ _ _ _)
            isplitl [HS7]
            · unfold owns; iexists _; isplitr
              swap; · iexact HS7
              ipureintro; exact View.read_writes_of_cover _ _ _ _ _ (scover0_A_7 c _ _ _ _ _ _ _ _ _ _ _ _ _ _ _ _ _ _ _ _ _ _ _ _ _ _ _ _ _ _ _)
            isplitl [HS8]
            · unfold owns; iexists _; isplitr
              swap; · iexact HS8
              ipureintro; exact View.read_writes_of_cover _ _ _ _ _ (scover0_A_8 c _ _ _ _ _ _ _ _ _ _ _ _ _ _ _ _ _ _ _ _ _ _ _ _ _ _ _ _ _ _ _)
            unfold owns; iexists _; isplitr
            swap; · iexact HS9
            ipureintro; exact View.read_writes_of_cover _ _ _ _ _ (scover0_A_9 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        iexists _; iexact H2
      · exfalso; have hN : t.val < 4 := lt_of_lt_of_eq t.isLt (show cfg0.N = 4 from N_0); omega
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2_C t (fun h => h0 ((hcond0_0 t).mp h)) ((hcond0_1 t).mpr h1)], after0_2]
      by_cases hz : t.val = 0
      · exfalso; have hN : t.val < 4 := lt_of_lt_of_eq t.isLt (show cfg0.N = 4 from N_0); omega
      · rw [PhiS_castSucc m c t, PhiS_pos m c _ _ hz]
        rw [outsAt0_C m c t h0 h1]
        unfold out0_C_2 sout0_C_0 sout0_C_6 sout0_C_7 sout0_C_8 sout0_C_9; (try dsimp only)
        iintro ⟨⟨⟨HS0, HS1, HS2, HS3, HS4, HS5, HS6, HS7, HS8, HS9⟩, Hg⟩, Ho, ⟨%d0, H0⟩, ⟨%d1, H1⟩, ⟨%d2, H2⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) _ _ _ _ _).2.2.2.2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        iintro ⟨H0, H1, ⟨%e2, H2⟩, HS0, ⟨%fT1, HS1⟩, HS2, HS3, HS4, HS5, ⟨%es6, HS6⟩, ⟨%es7, HS7⟩, HS8, ⟨%es9, HS9⟩⟩
        isplitl [HS0 HS1 HS2 HS3 HS4 HS5 HS6 HS7 HS8 HS9 Hg]
        · isplitl [HS0 HS1 HS2 HS3 HS4 HS5 HS6 HS7 HS8 HS9]
          · isplitl [HS0]
            · iexact HS0
            isplitl [HS1]
            · iexists _; unfold owns; iexists _; isplitr
              swap; · iexact HS1
              ipureintro; rfl
            isplitl [HS2]
            · iexact HS2
            isplitl [HS3]
            · iexact HS3
            isplitl [HS4]
            · iexact HS4
            isplitl [HS5]
            · iexact HS5
            isplitl [HS6]
            · unfold owns; iexists _; isplitr
              swap; · iexact HS6
              ipureintro; exact View.read_writes_of_cover _ _ _ _ _ (scover0_C_6 c _ _ _ _ _ _ _ _ _ _ _ _ _ _ _ _ _ _ _ _ _ _ _ _ _ _ _ _ _ _ _ _ _ _ _ _)
            isplitl [HS7]
            · unfold owns; iexists _; isplitr
              swap; · iexact HS7
              ipureintro; exact View.read_writes_of_cover _ _ _ _ _ (scover0_C_7 c _ _ _ _ _ _ _ _ _ _ _ _ _ _ _ _ _ _ _ _ _ _ _ _ _ _ _ _ _ _ _ _ _ _ _ _)
            isplitl [HS8]
            · iexact HS8
            unfold owns; iexists _; isplitr
            swap; · iexact HS9
            ipureintro; exact View.read_writes_of_cover _ _ _ _ _ (scover0_C_9 c _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 4 := lt_of_lt_of_eq t.isLt (show cfg0.N = 4 from N_0); omega
      · rw [PhiS_castSucc m c t, PhiS_pos m c _ _ hz]
        rw [outsAt0_B m c t h0 h1]
        unfold sout0_B_0 sout0_B_6 sout0_B_7 sout0_B_8 sout0_B_9; (try dsimp only)
        iintro ⟨⟨⟨HS0, HS1, HS2, HS3, HS4, HS5, HS6, HS7, HS8, HS9⟩, Hg⟩, Ho, ⟨%d0, H0⟩, ⟨%d1, H1⟩, ⟨%d2, H2⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) _ _ _ _ _).2.2.2.2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        iintro ⟨H0, H1, H2, HS0, ⟨%fT1, HS1⟩, HS2, HS3, HS4, HS5, ⟨%es6, HS6⟩, ⟨%es7, HS7⟩, HS8, ⟨%es9, HS9⟩⟩
        isplitl [HS0 HS1 HS2 HS3 HS4 HS5 HS6 HS7 HS8 HS9 Hg]
        · isplitl [HS0 HS1 HS2 HS3 HS4 HS5 HS6 HS7 HS8 HS9]
          · isplitl [HS0]
            · iexact HS0
            isplitl [HS1]
            · iexists _; unfold owns; iexists _; isplitr
              swap; · iexact HS1
              ipureintro; rfl
            isplitl [HS2]
            · iexact HS2
            isplitl [HS3]
            · iexact HS3
            isplitl [HS4]
            · iexact HS4
            isplitl [HS5]
            · iexact HS5
            isplitl [HS6]
            · unfold owns; iexists _; isplitr
              swap; · iexact HS6
              ipureintro; exact View.read_writes_of_cover _ _ _ _ _ (scover0_B_6 c _ _ _ _ _ _ _ _ _ _ _ _ _ _ _ _ _ _ _ _ _ _ _ _ _ _ _ _ _ _ _ _ _ _ _ _)
            isplitl [HS7]
            · unfold owns; iexists _; isplitr
              swap; · iexact HS7
              ipureintro; exact View.read_writes_of_cover _ _ _ _ _ (scover0_B_7 c _ _ _ _ _ _ _ _ _ _ _ _ _ _ _ _ _ _ _ _ _ _ _ _ _ _ _ _ _ _ _ _ _ _ _ _)
            isplitl [HS8]
            · iexact HS8
            unfold owns; iexists _; isplitr
            swap; · iexact HS9
            ipureintro; exact View.read_writes_of_cover _ _ _ _ _ (scover0_B_9 c _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        iexists _; iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    isplitl [HS6]
    · iexists _; iexact HS6
    isplitl [HS7]
    · iexists _; iexact HS7
    isplitl [HS8]
    · iexists _; iexact HS8
    iexists _; iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 4 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the mesh of the program, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.Math.Scale.lean ====
/- The extended reals as a logarithmic scale of the non-negative reals: `ell a` is the logarithm of `a` (`⊥` at 0) and
   `up a` is `a` itself. Sums, maxima, exponentials and logarithms of such values are again such values. -/
module

public import Idealize.ShloMosaic.PureOps.Ideal
public import Mathlib.Analysis.SpecialFunctions.Log.Basic

@[expose] public section

noncomputable section

namespace Cert.Math

open Idealize.ShloMosaic
open scoped NNReal

/-- The non-negative real `a` as an extended real. -/
def up (a : ℝ≥0) : EReal := ((a : ℝ) : EReal)

/-- The logarithm of the non-negative real `a`, `⊥` at zero. -/
def ell (a : ℝ≥0) : EReal := Ideal.log (up a)

/-- Zero as an extended real. -/
theorem up_zero : up 0 = 0 := by simp [up]
/-- One as an extended real. -/
theorem up_one : up 1 = 1 := by simp [up]
/-- A sum as an extended real. -/
theorem up_add (a b : ℝ≥0) : up (a + b) = up a + up b := by simp [up]
/-- A product as an extended real. -/
theorem up_mul (a b : ℝ≥0) : up (a * b) = up a * up b := by simp [up]

/-- The logarithm of zero is −∞. -/
theorem ell_zero : ell 0 = ⊥ := by
  show Ideal.log ((0 : ℝ) : EReal) = ⊥
  rw [Ideal.log_coe, if_pos le_rfl]

/-- The logarithm of a positive number is the real logarithm. -/
theorem ell_pos {a : ℝ≥0} (h : a ≠ 0) : ell a = (Real.log a : EReal) := by
  have : ¬ ((a : ℝ) ≤ 0) := not_le.2 (NNReal.coe_pos.2 (pos_iff_ne_zero.2 h))
  unfold ell up
  rw [Ideal.log_coe, if_neg this]

/-- The logarithm of one is zero. -/
theorem ell_one : ell 1 = 0 := by rw [ell_pos one_ne_zero]; simp

/-- The ideal logarithm of a non-negative real is `ell`. -/
theorem log_up (a : ℝ≥0) : Ideal.log (up a) = ell a := rfl

/-- A sum of logarithms is the logarithm of the product. -/
theorem ell_mul (a b : ℝ≥0) : ell (a * b) = ell a + ell b := by
  rcases eq_or_ne a 0 with rfl | ha
  · simp [ell_zero]
  rcases eq_or_ne b 0 with rfl | hb
  · simp [ell_zero]
  rw [ell_pos ha, ell_pos hb, ell_pos (mul_ne_zero ha hb), ← EReal.coe_add, NNReal.coe_mul,
    Real.log_mul (NNReal.coe_ne_zero.2 ha) (NNReal.coe_ne_zero.2 hb)]

/-- A logarithm is below +∞. -/
theorem ell_lt_top (a : ℝ≥0) : ell a < ⊤ := by
  rcases eq_or_ne a 0 with rfl | ha
  · rw [ell_zero]; exact bot_lt_top
  · rw [ell_pos ha]; exact EReal.coe_lt_top _

/-- The logarithm is monotone. -/
theorem ell_mono {a b : ℝ≥0} (h : a ≤ b) : ell a ≤ ell b := by
  rcases eq_or_ne a 0 with rfl | ha
  · rw [ell_zero]; exact bot_le
  have hb : b ≠ 0 := (lt_of_lt_of_le (pos_iff_ne_zero.2 ha) h).ne'
  rw [ell_pos ha, ell_pos hb, EReal.coe_le_coe_iff]
  exact Real.log_le_log (NNReal.coe_pos.2 (pos_iff_ne_zero.2 ha)) (NNReal.coe_le_coe.2 h)

/-- The larger of two logarithms is the logarithm of the larger. -/
theorem ell_max (a b : ℝ≥0) : max (ell a) (ell b) = ell (max a b) := by
  rcases le_total a b with h | h
  · rw [max_eq_right h, max_eq_right (ell_mono h)]
  · rw [max_eq_left h, max_eq_left (ell_mono h)]

/-- The exponential undoes the logarithm. -/
theorem exp_ell (a : ℝ≥0) : Ideal.exp (ell a) = up a := by
  rcases eq_or_ne a 0 with rfl | ha
  · rw [ell_zero, Ideal.exp_bot, up_zero]
  · rw [ell_pos ha, Ideal.exp_coe, Real.exp_log (NNReal.coe_pos.2 (pos_iff_ne_zero.2 ha))]; rfl

/-- The exponential of a difference of logarithms is the quotient, as soon as the divisor is zero only with the dividend. -/
theorem exp_ell_sub {x y : ℝ≥0} (h : y = 0 → x = 0) : Ideal.exp (ell x - ell y) = up (x / y) := by
  rcases eq_or_ne x 0 with rfl | hx
  · rw [ell_zero, EReal.bot_sub, Ideal.exp_bot, zero_div, up_zero]
  have hy : y ≠ 0 := fun e => hx (h e)
  rw [ell_pos hx, ell_pos hy, ← EReal.coe_sub, Ideal.exp_coe, Real.exp_sub,
    Real.exp_log (NNReal.coe_pos.2 (pos_iff_ne_zero.2 hx)), Real.exp_log (NNReal.coe_pos.2 (pos_iff_ne_zero.2 hy))]
  simp [up]

/-- The exponential of a real, as a non-negative real. -/
def pexp (r : ℝ) : ℝ≥0 := Real.toNNReal (Real.exp r)

/-- The value of the positive exponential. -/
theorem coe_pexp (r : ℝ) : ((pexp r : ℝ≥0) : ℝ) = Real.exp r := Real.coe_toNNReal _ (Real.exp_pos r).le

/-- The positive exponential is not zero. -/
theorem pexp_ne_zero (r : ℝ) : pexp r ≠ 0 := fun e => (Real.exp_pos r).ne' (by rw [← coe_pexp, e]; rfl)

/-- The logarithm undoes the positive exponential. -/
theorem ell_pexp (r : ℝ) : ell (pexp r) = (r : EReal) := by
  rw [ell_pos (pexp_ne_zero r), coe_pexp, Real.log_exp]

/-- Subtracting a real from a logarithm scales by the exponential of its opposite. -/
theorem ell_sub_coe (x : ℝ≥0) (r : ℝ) : ell x - (r : EReal) = ell (x * pexp (-r)) := by
  rw [ell_mul, ell_pexp, sub_eq_add_neg, ← EReal.coe_neg]

/-- A value below `⊤` is the logarithm of a non-negative real. -/
theorem exists_ell {x : EReal} (h : x < ⊤) : ∃ a, x = ell a := by
  induction x with
  | bot => exact ⟨0, ell_zero.symm⟩
  | top => exact absurd h (lt_irrefl _)
  | coe r => exact ⟨pexp r, (ell_pexp r).symm⟩

/-- A sum of logarithms is the logarithm of the product. -/
theorem ell_prod {ι : Type*} (s : Finset ι) (f : ι → ℝ≥0) : ∑ i ∈ s, ell (f i) = ell (∏ i ∈ s, f i) := by
  classical
  induction s using Finset.induction_on with
  | empty => simp [ell_one]
  | insert a s ha ih => rw [Finset.sum_insert ha, Finset.prod_insert ha, ih, ell_mul]

/-- The largest of finitely many logarithms is the logarithm of the largest. -/
theorem ell_fold_max {ι : Type*} (s : Finset ι) (f : ι → ℝ≥0) :
    s.fold max ⊥ (fun i => ell (f i)) = ell (s.sup f) := by
  classical
  induction s using Finset.induction_on with
  | empty => simp [ell_zero]
  | insert a s ha ih => rw [Finset.fold_insert ha, ih, ell_max, Finset.sup_insert]

/-- What the logarithm of a sum of two exponentials, shifted by their larger exponent, gives. -/
theorem lse_two (x y : ℝ≥0) :
    max (ell x) (ell y) + Ideal.log (Ideal.exp (ell x - max (ell x) (ell y)) + Ideal.exp (ell y - max (ell x) (ell y)))
      = ell (x + y) := by
  have hx : max x y = 0 → x = 0 := fun e => le_antisymm (e ▸ le_max_left x y) bot_le
  have hy : max x y = 0 → y = 0 := fun e => le_antisymm (e ▸ le_max_right x y) bot_le
  rw [ell_max, exp_ell_sub hx, exp_ell_sub hy, ← up_add, log_up, ← ell_mul]
  congr 1
  rcases eq_or_ne (max x y) 0 with h | h
  · rw [h, zero_mul, hx h, hy h, zero_add]
  · rw [← add_div, mul_div_cancel₀ _ h]

/-- `ell x + y`-shift: the guarded three-term form the reference writes, where a maximum of `⊥` is replaced by 0. -/
theorem lse_three (x y z : ℝ≥0) (g : EReal)
    (hg : g = if ⊥ < max (max (ell x) (ell y)) (ell z) then max (max (ell x) (ell y)) (ell z) else 0) :
    g + Ideal.log (Ideal.exp (ell x - g) + Ideal.exp (ell y - g) + Ideal.exp (ell z - g)) = ell (x + y + z) := by
  rw [ell_max, ell_max] at hg
  have hx : max (max x y) z = 0 → x = 0 := fun e => le_antisymm (e ▸ (le_max_left x y).trans (le_max_left _ z)) bot_le
  have hy : max (max x y) z = 0 → y = 0 := fun e => le_antisymm (e ▸ (le_max_right x y).trans (le_max_left _ z)) bot_le
  have hz : max (max x y) z = 0 → z = 0 := fun e => le_antisymm (e ▸ le_max_right (max x y) z) bot_le
  rcases eq_or_ne (max (max x y) z) 0 with h | h
  · rw [h, ell_zero, if_neg (lt_irrefl _)] at hg
    rw [hx h, hy h, hz h, hg, ell_zero, EReal.bot_sub, Ideal.exp_bot, add_zero, add_zero, ← up_zero, log_up, add_zero, ell_zero,
      EReal.add_bot, add_zero, ell_zero]
  · have hb : ⊥ < ell (max (max x y) z) := by rw [ell_pos h]; exact EReal.bot_lt_coe _
    rw [if_pos hb] at hg
    rw [hg, exp_ell_sub hx, exp_ell_sub hy, exp_ell_sub hz, ← up_add, ← up_add, log_up, ← ell_mul]
    congr 1
    rw [← add_div, ← add_div, mul_div_cancel₀ _ h]

/-- The guarded two-term form the reference ends with. -/
theorem lse_two_guard (x y : ℝ≥0) (g : EReal) (hg : g = if ⊥ < max (ell x) (ell y) then max (ell x) (ell y) else 0) :
    g + Ideal.log (Ideal.exp (ell x - g) + Ideal.exp (ell y - g)) = ell (x + y) := by
  have h := lse_three x y 0 g (by
    rw [ell_zero, max_eq_left (bot_le : (⊥ : EReal) ≤ _)]; exact hg)
  rw [ell_zero, EReal.bot_sub, Ideal.exp_bot, add_zero, add_zero] at h
  exact h

end Cert.Math

end
-- ==== Proof.Math.Recursion.lean ====
/- The two recursions over non-negative reals. `ctc` is the alignment sum over the interleaved label sequence: state `2 j` is
   the blank before label `j`, state `2 j + 1` the label `j`. `nstep` is one step of the kernel on the blanks and the labels
   apart, on probabilities divided by their largest; `ustep` is the same step on a state divided entry by entry by fixed
   references. -/
module

public import Mathlib.Data.NNReal.Defs
public import Mathlib.Algebra.BigOperators.Group.Finset.Basic
public import Mathlib.Tactic.Ring

@[expose] public section

noncomputable section

namespace Cert.Math

open scoped NNReal

/-- A row moved one place to the right, zero coming in. -/
def sh (f : ℕ → ℝ≥0) (j : ℕ) : ℝ≥0 := if j = 0 then 0 else f (j - 1)

/-- A shifted sequence begins with zero. -/
theorem sh_zero (f : ℕ → ℝ≥0) : sh f 0 = 0 := if_pos rfl
/-- A shifted sequence at `j + 1` is the sequence at `j`. -/
theorem sh_succ (f : ℕ → ℝ≥0) (j : ℕ) : sh f (j + 1) = f j := by rw [sh, if_neg (Nat.succ_ne_zero j)]; rfl

/-- The rows of the blanks and of the labels. -/
abbrev Rows := (ℕ → ℝ≥0) × (ℕ → ℝ≥0)

/-- One step: `s` allows the skips, `p` and `q` are the step's probabilities of the labels and of the blank. -/
def nstep (s p : ℕ → ℝ≥0) (q : ℝ≥0) (x : Rows) : Rows :=
  (fun j => (x.1 j + sh x.2 j) * q, fun j => (x.2 j + x.1 j + s j * sh x.2 j) * p j)

/-- One step of the divided rows, with the ratios `g`, `h`, `k` of the references. -/
def ustep (g h k p : ℕ → ℝ≥0) (q : ℝ≥0) (u : Rows) : Rows :=
  (fun j => (u.1 j + g j * sh u.2 j) * q, fun j => (u.2 j + h j * u.1 j + k j * sh u.2 j) * p j)

/-- `n` steps, the `i`-th being `f i`. -/
def steps {X : Type*} (f : ℕ → X → X) (x : X) : ℕ → X
  | 0 => x
  | n + 1 => f n (steps f x n)

/-- `n + k` steps are `k` steps, counted from `n`, after `n` steps. -/
theorem steps_add {X : Type*} (f : ℕ → X → X) (x : X) (n : ℕ) :
    ∀ k, steps f x (n + k) = steps (fun i => f (n + i)) (steps f x n) k
  | 0 => rfl
  | k + 1 => congrArg (f (n + k)) (steps_add f x n k)

/-- The divided rows `u`, multiplied by the references `A`, `B`, are the rows `x`, up to column 64. -/
def Scaled (A B : ℕ → ℝ≥0) (u x : Rows) : Prop := ∀ j ≤ 64, A j * u.1 j = x.1 j ∧ B j * u.2 j = x.2 j

/-- Dividing by the references commutes with a step. -/
theorem Scaled.step {A B g h k s : ℕ → ℝ≥0} (hg : ∀ j < 64, A (j + 1) * g (j + 1) = B j) (hh : ∀ j ≤ 64, B j * h j = A j)
    (hk : ∀ j < 64, B (j + 1) * k (j + 1) = B j * s (j + 1)) {u x : Rows} (hu : Scaled A B u x) (p : ℕ → ℝ≥0) (q : ℝ≥0) :
    Scaled A B (ustep g h k p q u) (nstep s p q x) := by
  intro j hj
  obtain ⟨h1, h2⟩ := hu j hj
  cases j with
  | zero =>
    simp only [ustep, nstep, sh_zero, mul_zero, add_zero]
    refine ⟨by rw [← h1]; ring, ?_⟩
    rw [← h1, ← h2]
    calc B 0 * ((u.2 0 + h 0 * u.1 0) * p 0) = (B 0 * u.2 0 + (B 0 * h 0) * u.1 0) * p 0 := by ring
      _ = _ := by rw [hh 0 hj]
  | succ j =>
    obtain ⟨-, h3⟩ := hu j (by omega)
    simp only [ustep, nstep, sh_succ]
    rw [← h1, ← h2, ← h3]
    constructor
    · calc A (j + 1) * ((u.1 (j + 1) + g (j + 1) * u.2 j) * q)
          = (A (j + 1) * u.1 (j + 1) + (A (j + 1) * g (j + 1)) * u.2 j) * q := by ring
        _ = _ := by rw [hg j (by omega)]
    · calc B (j + 1) * ((u.2 (j + 1) + h (j + 1) * u.1 (j + 1) + k (j + 1) * u.2 j) * p (j + 1))
          = (B (j + 1) * u.2 (j + 1) + (B (j + 1) * h (j + 1)) * u.1 (j + 1) + (B (j + 1) * k (j + 1)) * u.2 j) * p (j + 1) := by
            ring
        _ = (B (j + 1) * u.2 (j + 1) + A (j + 1) * u.1 (j + 1) + s (j + 1) * (B j * u.2 j)) * p (j + 1) := by
            rw [hh _ hj, hk j (by omega)]; ring

/-- So it does with any number of steps. -/
theorem Scaled.steps {A B g h k s : ℕ → ℝ≥0} (hg : ∀ j < 64, A (j + 1) * g (j + 1) = B j) (hh : ∀ j ≤ 64, B j * h j = A j)
    (hk : ∀ j < 64, B (j + 1) * k (j + 1) = B j * s (j + 1)) {u x : Rows} (hu : Scaled A B u x) (p : ℕ → ℕ → ℝ≥0)
    (q : ℕ → ℝ≥0) :
    ∀ n, Scaled A B (Math.steps (fun i => ustep g h k (p i) (q i)) u n) (Math.steps (fun i => nstep s (p i) (q i)) x n)
  | 0 => hu
  | n + 1 => (Scaled.steps hg hh hk hu p q n).step hg hh hk (p n) (q n)

/-- The alignment sums: before step `t` in state `σ`, with the steps' probabilities `P` and the skips `κ`. -/
def ctc (P : ℕ → ℕ → ℝ≥0) (κ : ℕ → ℝ≥0) : ℕ → ℕ → ℝ≥0
  | 0, σ => if σ = 0 then 1 else 0
  | t + 1, σ => (ctc P κ t σ + sh (ctc P κ t) σ + κ σ * sh (sh (ctc P κ t)) σ) * P t σ

/-- The rows the kernel starts from: all weight on the first blank. -/
def rows0 : Rows := (fun j => if j = 0 then 1 else 0, fun _ => 0)

/-- The alignment sums are the kernel's rows times the product of the probabilities divided out. -/
theorem ctc_eq (P : ℕ → ℕ → ℝ≥0) (κ s m q : ℕ → ℝ≥0) (p : ℕ → ℕ → ℝ≥0) (hκe : ∀ j, κ (2 * j) = 0)
    (hκo : ∀ j < 64, κ (2 * j + 1) = s j) (hq : ∀ t, ∀ j ≤ 64, P t (2 * j) = q t * m t)
    (hp : ∀ t, ∀ j < 64, P t (2 * j + 1) = p t j * m t) :
    ∀ t, (∀ j ≤ 64, ctc P κ t (2 * j) = (steps (fun i => nstep s (p i) (q i)) rows0 t).1 j * ∏ i ∈ Finset.range t, m i)
      ∧ (∀ j < 64, ctc P κ t (2 * j + 1) = (steps (fun i => nstep s (p i) (q i)) rows0 t).2 j * ∏ i ∈ Finset.range t, m i)
  | 0 => by
    refine ⟨fun j _ => ?_, fun j _ => ?_⟩
    · simp [ctc, steps, rows0]
    · simp [ctc, steps, rows0]
  | t + 1 => by
    obtain ⟨he, ho⟩ := ctc_eq P κ s m q p hκe hκo hq hp t
    refine ⟨fun j hj => ?_, fun j hj => ?_⟩
    · rw [ctc, hκe, hq t j hj, he j hj, Finset.prod_range_succ]
      cases j with
      | zero => simp only [steps, nstep, sh_zero, mul_zero]; ring
      | succ j =>
        rw [show 2 * (j + 1) = (2 * j + 1) + 1 from rfl, sh_succ, ho j (by omega)]
        simp only [steps, nstep, sh_succ]; ring
    · rw [ctc, hκo j hj, hp t j hj, ho j hj, sh_succ, sh_succ, he j (by omega), Finset.prod_range_succ]
      cases j with
      | zero => simp only [steps, nstep, sh_zero, mul_zero, Nat.mul_zero]; ring
      | succ j =>
        rw [show 2 * (j + 1) = (2 * j + 1) + 1 from rfl, sh_succ, ho j (by omega)]
        simp only [steps, nstep, sh_succ]; ring

end Cert.Math

end
-- ==== Proof.KI.Groups.lean ====
/- What four unrolled steps of the kernel's window compute. The kernel keeps, next to the rows of blanks and labels, their
   copies shifted by one, two and three columns, and advances these copies on its own; over rows of non-negative reals the
   copies stay the shifted rows, and the four unrolled steps are four plain steps. -/
module

public import proofs.«01_k».proof.Proof.Gen.KernelIdeal
public import proofs.«01_k».proof.Proof.Gen.KernelIdeal.Skeleton
public import proofs.«01_k».proof.Proof.Math.Scale
public import proofs.«01_k».proof.Proof.Math.Recursion
public import Idealize.ShloMosaic.Lib.Pointwise

@[expose] public section

set_option maxRecDepth 16384

noncomputable section

namespace Cert.KernelIdeal.Window

open Idealize.ShloMosaic Cert.KernelIdeal Cert.KernelIdeal.Facts₀ Cert.Math
open scoped NNReal

/-- The kernel's vectors: one row of 65 columns for each sequence. -/
abbrev R := FVec Ideal S16x65 .f32

/-- Rows of non-negative reals, one for each sequence. -/
abbrev L := Fin 16 → ℕ → ℝ≥0

/-- The vector holding the rows `a`. -/
def vec (a : L) : R := fun i => up (a (i 0) (i 1).val)

/-- The rows shifted by one column. -/
def S (a : L) : L := fun r => sh (a r)

/-- A sum of rows. -/
theorem vec_add (a b : L) : addf (vec a) (vec b) = vec (a + b) := by
  funext i; exact (up_add _ _).symm

/-- A product of rows. -/
theorem vec_mul (a b : L) : mulf (vec a) (vec b) = vec (a * b) := by
  funext i; exact (up_mul _ _).symm

/-- Shifting a sum. -/
theorem S_add (a b : L) : S (a + b) = S a + S b := by
  funext r j; cases j <;> simp [S, sh_zero, sh_succ]

/-- Shifting a product. -/
theorem S_mul (a b : L) : S (a * b) = S a * S b := by
  funext r j; cases j <;> simp [S, sh_zero, sh_succ]

/-- Rows that are constant along the columns. -/
def con (q : Fin 16 → ℝ≥0) : L := fun r _ => q r

/-- Shifting a multiple. -/
theorem S_mul_con (a : L) (q : Fin 16 → ℝ≥0) : S (a * con q) = S a * con q := by
  funext r j; cases j <;> simp [S, sh_zero, sh_succ, con]

/-- The kernel's shift by one column. -/
def sh1 (f : R) : R := concatenate S16x65 1 [⟨S16x1, broadcast S16x1 (Scalar.ofBits .f32 0x00000000#32 : Ideal .f32)⟩,
  ⟨S16x64, extractStridedSlice S16x64 ![0, 0] f slices_S16x65_o0_0_S16x64⟩] concatenates_S16x1_S16x64_S16x65_d1
/-- The kernel's shift by two columns. -/
def sh2 (f : R) : R := concatenate S16x65 1 [⟨S16x2, broadcast S16x2 (Scalar.ofBits .f32 0x00000000#32 : Ideal .f32)⟩,
  ⟨S16x63, extractStridedSlice S16x63 ![0, 0] f slices_S16x65_o0_0_S16x63⟩] concatenates_S16x2_S16x63_S16x65_d1
/-- The kernel's shift by three columns. -/
def sh3 (f : R) : R := concatenate S16x65 1 [⟨S16x3, broadcast S16x3 (Scalar.ofBits .f32 0x00000000#32 : Ideal .f32)⟩,
  ⟨S16x62, extractStridedSlice S16x62 ![0, 0] f slices_S16x65_o0_0_S16x62⟩] concatenates_S16x3_S16x62_S16x65_d1
/-- The kernel's shift by four columns. -/
def sh4 (f : R) : R := concatenate S16x65 1 [⟨S16x4, broadcast S16x4 (Scalar.ofBits .f32 0x00000000#32 : Ideal .f32)⟩,
  ⟨S16x61, extractStridedSlice S16x61 ![0, 0] f slices_S16x65_o0_0_S16x61⟩] concatenates_S16x4_S16x61_S16x65_d1

/-- A row shifted `n` times: zero in the first `n` columns, then the row. -/
theorem iter_sh (f : ℕ → ℝ≥0) : ∀ (n j : ℕ), (sh^[n] f) j = if j < n then 0 else f (j - n)
  | 0, j => by simp
  | n + 1, j => by
    rw [Function.iterate_succ_apply']
    cases j with
    | zero => simp [sh_zero]
    | succ j => rw [sh_succ, iter_sh f n j]; simp

/-- A repeated shift, row by row. -/
theorem S_iter (a : L) (n : ℕ) : S^[n] a = fun r => sh^[n] (a r) := by
  induction n with
  | zero => rfl
  | succ n ih => funext r; rw [Function.iterate_succ_apply', ih, Function.iterate_succ_apply']; rfl

/-- A repeated shift, read at an index. -/
theorem vec_iter (a : L) (n : ℕ) (i : S16x65.Idx) :
    vec (S^[n] a) i = if (i 1).val < n then 0 else up (a (i 0) ((i 1).val - n)) := by
  rw [S_iter]
  show up ((sh^[n] (a (i 0))) (i 1).val) = _
  rw [iter_sh]
  split
  · exact up_zero
  · rfl

/-- The kernel's shift by one. -/
theorem sh1_vec (a : L) : sh1 (vec a) = vec (S a) := by
  funext i
  rw [show S a = S^[1] a from rfl, vec_iter]
  pointwise [sh1]
  rfl

/-- The kernel's shift by two. -/
theorem sh2_vec (a : L) : sh2 (vec a) = vec (S (S a)) := by
  funext i
  rw [show S (S a) = S^[2] a from rfl, vec_iter]
  pointwise [sh2]
  rfl

/-- The kernel's shift by three. -/
theorem sh3_vec (a : L) : sh3 (vec a) = vec (S (S (S a))) := by
  funext i
  rw [show S (S (S a)) = S^[3] a from rfl, vec_iter]
  pointwise [sh3]
  rfl

/-- The kernel's shift by four. -/
theorem sh4_vec (a : L) : sh4 (vec a) = vec (S (S (S (S a)))) := by
  funext i
  rw [show S (S (S (S a))) = S^[4] a from rfl, vec_iter]
  pointwise [sh4]
  rfl

/-- One plain step on all rows. -/
def stepL (g h k p : L) (q : Fin 16 → ℝ≥0) (u : L × L) : L × L :=
  ((u.1 + g * S u.2) * con q, (u.2 + h * u.1 + k * S u.2) * p)

/-- Four unrolled steps, with the shifted copies advanced apart; `p`, `b` are the probabilities of the four steps and
    `s`, `t`, `w` the label probabilities shifted by one, two and three columns. -/
def group (g h k p0 p1 p2 p3 b0 b1 b2 b3 s0 s1 s2 t0 t1 w : R) (u : R × R) : R × R :=
  let e := u.1
  let o := u.2
  let v0 := sh1 o
  let e0 := sh1 e
  let w0 := sh2 o
  let f0 := sh2 e
  let x0 := sh3 o
  let q0 := sh3 e
  let y0 := sh4 o
  let ue1 := mulf (addf e (mulf g v0)) b0
  let uo1 := mulf (addf (addf o (mulf h e)) (mulf k v0)) p0
  let v1 := mulf (addf (addf v0 (mulf (sh1 h) e0)) (mulf (sh1 k) w0)) s0
  let e1 := mulf (addf e0 (mulf (sh1 g) w0)) b0
  let w1 := mulf (addf (addf w0 (mulf (sh2 h) f0)) (mulf (sh2 k) x0)) t0
  let f1 := mulf (addf f0 (mulf (sh2 g) x0)) b0
  let x1 := mulf (addf (addf x0 (mulf (sh3 h) q0)) (mulf (sh3 k) y0)) w
  let ue2 := mulf (addf ue1 (mulf g v1)) b1
  let uo2 := mulf (addf (addf uo1 (mulf h ue1)) (mulf k v1)) p1
  let v2 := mulf (addf (addf v1 (mulf (sh1 h) e1)) (mulf (sh1 k) w1)) s1
  let e2 := mulf (addf e1 (mulf (sh1 g) w1)) b1
  let w2 := mulf (addf (addf w1 (mulf (sh2 h) f1)) (mulf (sh2 k) x1)) t1
  let ue3 := mulf (addf ue2 (mulf g v2)) b2
  let uo3 := mulf (addf (addf uo2 (mulf h ue2)) (mulf k v2)) p2
  let v3 := mulf (addf (addf v2 (mulf (sh1 h) e2)) (mulf (sh1 k) w2)) s2
  (mulf (addf ue3 (mulf g v3)) b3, mulf (addf (addf uo3 (mulf h ue3)) (mulf k v3)) p3)

/-- On rows of non-negative reals, with the shifted probabilities the shifts of the probabilities and the blank's
    probability the same in every column, the four unrolled steps are four plain steps. -/
theorem group_vec (g h k : L) (p : ℕ → L) (q : ℕ → Fin 16 → ℝ≥0) (u : L × L) :
    group (vec g) (vec h) (vec k) (vec (p 0)) (vec (p 1)) (vec (p 2)) (vec (p 3)) (vec (con (q 0))) (vec (con (q 1)))
        (vec (con (q 2))) (vec (con (q 3))) (vec (S (p 0))) (vec (S (p 1))) (vec (S (p 2))) (vec (S (S (p 0))))
        (vec (S (S (p 1)))) (vec (S (S (S (p 0))))) (vec u.1, vec u.2)
      = (vec (steps (fun i => stepL g h k (p i) (q i)) u 4).1, vec (steps (fun i => stepL g h k (p i) (q i)) u 4).2) := by
  simp only [group, sh1_vec, sh2_vec, sh3_vec, sh4_vec, vec_add, vec_mul, steps, stepL, S_add, S_mul_con,
    fun (x : L) i => S_mul x (p i), fun (x : L) i => S_mul x (S (p i)), fun (x : L) i => S_mul x (S (S (p i))),
    S_mul g, S_mul h, S_mul k, S_mul (S g), S_mul (S h), S_mul (S k), S_mul (S (S h)), S_mul (S (S k))]

/-- Row `r` of four, three and two loaded steps. -/
abbrev row4_0 (v : Vec Ideal S4x16x65 .f32) : R := shapeCast S16x65 (extractStridedSlice S1x16x65 ![0, 0, 0] v slices_S4x16x65_o0_0_0_S1x16x65) shapeCasts_S1x16x65_S16x65
/-- The second row of a group of four. -/
abbrev row4_1 (v : Vec Ideal S4x16x65 .f32) : R := shapeCast S16x65 (extractStridedSlice S1x16x65 ![1, 0, 0] v slices_S4x16x65_o1_0_0_S1x16x65) shapeCasts_S1x16x65_S16x65
/-- The third row of a group of four. -/
abbrev row4_2 (v : Vec Ideal S4x16x65 .f32) : R := shapeCast S16x65 (extractStridedSlice S1x16x65 ![2, 0, 0] v slices_S4x16x65_o2_0_0_S1x16x65) shapeCasts_S1x16x65_S16x65
/-- The fourth row of a group of four. -/
abbrev row4_3 (v : Vec Ideal S4x16x65 .f32) : R := shapeCast S16x65 (extractStridedSlice S1x16x65 ![3, 0, 0] v slices_S4x16x65_o3_0_0_S1x16x65) shapeCasts_S1x16x65_S16x65
/-- The first row of a group of three. -/
abbrev row3_0 (v : Vec Ideal S3x16x65 .f32) : R := shapeCast S16x65 (extractStridedSlice S1x16x65 ![0, 0, 0] v slices_S3x16x65_o0_0_0_S1x16x65) shapeCasts_S1x16x65_S16x65
/-- The second row of a group of three. -/
abbrev row3_1 (v : Vec Ideal S3x16x65 .f32) : R := shapeCast S16x65 (extractStridedSlice S1x16x65 ![1, 0, 0] v slices_S3x16x65_o1_0_0_S1x16x65) shapeCasts_S1x16x65_S16x65
/-- The third row of a group of three. -/
abbrev row3_2 (v : Vec Ideal S3x16x65 .f32) : R := shapeCast S16x65 (extractStridedSlice S1x16x65 ![2, 0, 0] v slices_S3x16x65_o2_0_0_S1x16x65) shapeCasts_S1x16x65_S16x65
/-- The first row of a group of two. -/
abbrev row2_0 (v : Vec Ideal S2x16x65 .f32) : R := shapeCast S16x65 (extractStridedSlice S1x16x65 ![0, 0, 0] v slices_S2x16x65_o0_0_0_S1x16x65) shapeCasts_S1x16x65_S16x65
/-- The second row of a group of two. -/
abbrev row2_1 (v : Vec Ideal S2x16x65 .f32) : R := shapeCast S16x65 (extractStridedSlice S1x16x65 ![1, 0, 0] v slices_S2x16x65_o1_0_0_S1x16x65) shapeCasts_S1x16x65_S16x65
/-- The row of a group of one. -/
abbrev row1 (v : Vec Ideal S1x16x65 .f32) : R := shapeCast S16x65 v shapeCasts_S1x16x65_S16x65

/-- Four unrolled steps on the five loaded blocks of probabilities. -/
def groupOf (g h k : R) (pq bq : Vec Ideal S4x16x65 .f32) (sq : Vec Ideal S3x16x65 .f32) (tq : Vec Ideal S2x16x65 .f32)
    (wq : Vec Ideal S1x16x65 .f32) (u : R × R) : R × R :=
  group g h k (row4_0 pq) (row4_1 pq) (row4_2 pq) (row4_3 pq) (row4_0 bq) (row4_1 bq) (row4_2 bq) (row4_3 bq)
    (row3_0 sq) (row3_1 sq) (row3_2 sq) (row2_0 tq) (row2_1 tq) (row1 wq) u

end Cert.KernelIdeal.Window

end
-- ==== Proof.KI.Trip.lean ====
/- One trip of the kernel's window loop as a term: the references, the ratios of neighbouring references, four groups of
   four unrolled steps, and the logarithm of what they leave. -/
module

public import proofs.«01_k».proof.Proof.Gen.KernelIdeal.Loops
public import proofs.«01_k».proof.Proof.KI.Groups

@[expose] public section

set_option maxRecDepth 16384

noncomputable section

namespace Cert.KernelIdeal.Window

open Idealize.ShloMosaic Idealize.ShloMosaic.TcCoe Cert.KernelIdeal Cert.KernelIdeal.Facts₀ Cert.Math
open Cert.KernelIdeal.Gen (facts)
open Idealize.SL Idealize.SL.Sem

/-- The lower bound of the references: each row's largest entry, less 75. -/
def low (e o : R) : FVec Ideal S16x1 .f32 :=
  subf (maximumf (shapeCast S16x1 (multiReduction .maximumf [1] S16 e 0xFF800000#32 reduces_S16x65_S16 (.inl rfl) rfl) shapeCasts_S16_S16x1)
    (shapeCast S16x1 (multiReduction .maximumf [1] S16 (extractStridedSlice S16x64 ![0, 0] o slices_S16x65_o0_0_S16x64) 0xFF800000#32 reduces_S16x64_S16 (.inl rfl) rfl) shapeCasts_S16_S16x1))
    (broadcast S16x1 (Scalar.ofBits .f32 0x42960000#32 : Ideal .f32))

/-- The references of the blanks. -/
def refE (e o : R) : R := maximumf e (broadcastTo S16x65 (low e o) broadcasts_S16x1_S16x65)
/-- The references of the labels. -/
def refO (e o : R) : R := maximumf o (broadcastTo S16x65 (low e o) broadcasts_S16x1_S16x65)
/-- The references of the labels shifted by one column, the lower bound coming in. -/
def refS (e o : R) : R := concatenate S16x65 1 [⟨S16x1, low e o⟩,
  ⟨S16x64, extractStridedSlice S16x64 ![0, 0] (refO e o) slices_S16x65_o0_0_S16x64⟩] concatenates_S16x1_S16x64_S16x65_d1
/-- The ratio of a label's reference to the next blank's. -/
def gE (e o : R) : R := exp (subf (refS e o) (refE e o))
/-- The ratio of a blank's reference to its label's. -/
def gO (e o : R) : R := exp (subf (refE e o) (refO e o))
/-- The ratio of a label's reference to the next label's, where the skip is allowed. -/
def gS (e o s : R) : R := mulf (exp (subf (refS e o) (refO e o))) s
/-- The blanks and labels divided by their references. -/
def unit (e o : R) : R × R := (exp (subf e (refE e o)), exp (subf o (refO e o)))

set_option maxHeartbeats 1600000 in
/-- The rows after group 0 of the trip. -/
theorem group0 (arg5 arg6 arg7 arg8 arg9 : Memref sig .tc .vmem S256x16x65 .f32) (v173 : Vec Ideal S16x65 .f32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (k : Fin k0_t1_loop.trips) (acc : R × R) :
    (Gen.trip_k0_t1.sl.v365 arg6 arg7 arg8 arg9 v173 X_arg6 X_arg7 X_arg8 X_arg9 k acc, Gen.trip_k0_t1.sl.v372 arg5 arg6 arg7 arg8 arg9 v173 X_arg5 X_arg6 X_arg7 X_arg8 X_arg9 k acc)
      = groupOf (gE acc.1 acc.2) (gO acc.1 acc.2) (gS acc.1 acc.2 v173)
        (View.readAt (Elt Ideal) arg5.view (Rect.unit (s := S256x16x65) (k0_off1 k 0#32) S4x16x65.size (Gen.k0_off1_inb k 0)).toLoadRect X_arg5) (View.readAt (Elt Ideal) arg9.view (Rect.unit (s := S256x16x65) (k0_off1 k 0#32) S4x16x65.size (Gen.k0_off1_inb k 0)).toLoadRect X_arg9) (View.readAt (Elt Ideal) arg6.view (Rect.unit (s := S256x16x65) (k0_off2 k 0#32) S3x16x65.size (Gen.k0_off2_inb k 0)).toLoadRect X_arg6) (View.readAt (Elt Ideal) arg7.view (Rect.unit (s := S256x16x65) (k0_off3 k 0#32) S2x16x65.size (Gen.k0_off3_inb k 0)).toLoadRect X_arg7) (View.readAt (Elt Ideal) arg8.view (Rect.unit (s := S256x16x65) (k0_off4 k 0#32) S1x16x65.size (Gen.k0_off4_inb k 0)).toLoadRect X_arg8)
        (unit acc.1 acc.2) := rfl

set_option maxHeartbeats 1600000 in
/-- The rows after group 1 of the trip. -/
theorem group1 (arg5 arg6 arg7 arg8 arg9 : Memref sig .tc .vmem S256x16x65 .f32) (v173 : Vec Ideal S16x65 .f32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (k : Fin k0_t1_loop.trips) (acc : R × R) :
    (Gen.trip_k0_t1.sl.v501 arg5 arg6 arg7 arg8 arg9 v173 X_arg5 X_arg6 X_arg7 X_arg8 X_arg9 k acc, Gen.trip_k0_t1.sl.v508 arg5 arg6 arg7 arg8 arg9 v173 X_arg5 X_arg6 X_arg7 X_arg8 X_arg9 k acc)
      = groupOf (gE acc.1 acc.2) (gO acc.1 acc.2) (gS acc.1 acc.2 v173)
        (View.readAt (Elt Ideal) arg5.view (Rect.unit (s := S256x16x65) (k0_off1 k 4#32) S4x16x65.size (Gen.k0_off1_inb k 1)).toLoadRect X_arg5) (View.readAt (Elt Ideal) arg9.view (Rect.unit (s := S256x16x65) (k0_off1 k 4#32) S4x16x65.size (Gen.k0_off1_inb k 1)).toLoadRect X_arg9) (View.readAt (Elt Ideal) arg6.view (Rect.unit (s := S256x16x65) (k0_off2 k 4#32) S3x16x65.size (Gen.k0_off2_inb k 1)).toLoadRect X_arg6) (View.readAt (Elt Ideal) arg7.view (Rect.unit (s := S256x16x65) (k0_off3 k 4#32) S2x16x65.size (Gen.k0_off3_inb k 1)).toLoadRect X_arg7) (View.readAt (Elt Ideal) arg8.view (Rect.unit (s := S256x16x65) (k0_off4 k 4#32) S1x16x65.size (Gen.k0_off4_inb k 1)).toLoadRect X_arg8)
        (Gen.trip_k0_t1.sl.v365 arg6 arg7 arg8 arg9 v173 X_arg6 X_arg7 X_arg8 X_arg9 k acc, Gen.trip_k0_t1.sl.v372 arg5 arg6 arg7 arg8 arg9 v173 X_arg5 X_arg6 X_arg7 X_arg8 X_arg9 k acc) := rfl

set_option maxHeartbeats 1600000 in
/-- The rows after group 2 of the trip. -/
theorem group2 (arg5 arg6 arg7 arg8 arg9 : Memref sig .tc .vmem S256x16x65 .f32) (v173 : Vec Ideal S16x65 .f32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (k : Fin k0_t1_loop.trips) (acc : R × R) :
    (Gen.trip_k0_t1.sl.v637 arg5 arg6 arg7 arg8 arg9 v173 X_arg5 X_arg6 X_arg7 X_arg8 X_arg9 k acc, Gen.trip_k0_t1.sl.v644 arg5 arg6 arg7 arg8 arg9 v173 X_arg5 X_arg6 X_arg7 X_arg8 X_arg9 k acc)
      = groupOf (gE acc.1 acc.2) (gO acc.1 acc.2) (gS acc.1 acc.2 v173)
        (View.readAt (Elt Ideal) arg5.view (Rect.unit (s := S256x16x65) (k0_off1 k 8#32) S4x16x65.size (Gen.k0_off1_inb k 2)).toLoadRect X_arg5) (View.readAt (Elt Ideal) arg9.view (Rect.unit (s := S256x16x65) (k0_off1 k 8#32) S4x16x65.size (Gen.k0_off1_inb k 2)).toLoadRect X_arg9) (View.readAt (Elt Ideal) arg6.view (Rect.unit (s := S256x16x65) (k0_off2 k 8#32) S3x16x65.size (Gen.k0_off2_inb k 2)).toLoadRect X_arg6) (View.readAt (Elt Ideal) arg7.view (Rect.unit (s := S256x16x65) (k0_off3 k 8#32) S2x16x65.size (Gen.k0_off3_inb k 2)).toLoadRect X_arg7) (View.readAt (Elt Ideal) arg8.view (Rect.unit (s := S256x16x65) (k0_off4 k 8#32) S1x16x65.size (Gen.k0_off4_inb k 2)).toLoadRect X_arg8)
        (Gen.trip_k0_t1.sl.v501 arg5 arg6 arg7 arg8 arg9 v173 X_arg5 X_arg6 X_arg7 X_arg8 X_arg9 k acc, Gen.trip_k0_t1.sl.v508 arg5 arg6 arg7 arg8 arg9 v173 X_arg5 X_arg6 X_arg7 X_arg8 X_arg9 k acc) := rfl

/-- Group `r` of a trip, on the blocks of probabilities it loads. -/
def groupAt (arg5 arg6 arg7 arg8 arg9 : Memref sig .tc .vmem S256x16x65 .f32) (v173 : R) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (k : Fin k0_t1_loop.trips) (r : Fin 4) (acc : R × R) (u : R × R) : R × R :=
  groupOf (gE acc.1 acc.2) (gO acc.1 acc.2) (gS acc.1 acc.2 v173)
        (View.readAt (Elt Ideal) arg5.view (Rect.unit (s := S256x16x65) (k0_off1 k (BitVec.ofNat 32 (4 * r.val))) S4x16x65.size (Gen.k0_off1_inb k r)).toLoadRect X_arg5) (View.readAt (Elt Ideal) arg9.view (Rect.unit (s := S256x16x65) (k0_off1 k (BitVec.ofNat 32 (4 * r.val))) S4x16x65.size (Gen.k0_off1_inb k r)).toLoadRect X_arg9) (View.readAt (Elt Ideal) arg6.view (Rect.unit (s := S256x16x65) (k0_off2 k (BitVec.ofNat 32 (4 * r.val))) S3x16x65.size (Gen.k0_off2_inb k r)).toLoadRect X_arg6) (View.readAt (Elt Ideal) arg7.view (Rect.unit (s := S256x16x65) (k0_off3 k (BitVec.ofNat 32 (4 * r.val))) S2x16x65.size (Gen.k0_off3_inb k r)).toLoadRect X_arg7) (View.readAt (Elt Ideal) arg8.view (Rect.unit (s := S256x16x65) (k0_off4 k (BitVec.ofNat 32 (4 * r.val))) S1x16x65.size (Gen.k0_off4_inb k r)).toLoadRect X_arg8) u

/-- The rows of a trip after its four groups. -/
def trip16 (arg5 arg6 arg7 arg8 arg9 : Memref sig .tc .vmem S256x16x65 .f32) (v173 : Vec Ideal S16x65 .f32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (k : Fin k0_t1_loop.trips) (acc : R × R) : R × R :=
  (groupAt arg5 arg6 arg7 arg8 arg9 v173 X_arg5 X_arg6 X_arg7 X_arg8 X_arg9 k 3 acc (groupAt arg5 arg6 arg7 arg8 arg9 v173 X_arg5 X_arg6 X_arg7 X_arg8 X_arg9 k 2 acc (groupAt arg5 arg6 arg7 arg8 arg9 v173 X_arg5 X_arg6 X_arg7 X_arg8 X_arg9 k 1 acc (groupAt arg5 arg6 arg7 arg8 arg9 v173 X_arg5 X_arg6 X_arg7 X_arg8 X_arg9 k 0 acc (unit acc.1 acc.2)))))

set_option maxHeartbeats 1600000 in
/-- One trip: the references plus the logarithms of the rows its four groups leave. -/
theorem trip_eq (𝒱 : Variants) (c : Dev nD) (bd : Option 𝒱.V) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (arg0 : BitVec 32) (v133 : Vec Ideal S256x16x1 .f32) (v136 : FVec Ideal S256x16x1 .f32) (v156 : FVec Ideal S256x16x65 .f32) (v173 : Vec Ideal S16x65 .f32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty)  (k : Fin k0_t1_loop.trips) (acc : R × R) :
    Gen.tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v133 v136 v156 v173 X_arg5 X_arg6 X_arg7 X_arg8 X_arg9 k acc
      = (addf (refE acc.1 acc.2) (log (trip16 arg5 arg6 arg7 arg8 arg9 v173 X_arg5 X_arg6 X_arg7 X_arg8 X_arg9 k acc).1),
         addf (refO acc.1 acc.2) (log (trip16 arg5 arg6 arg7 arg8 arg9 v173 X_arg5 X_arg6 X_arg7 X_arg8 X_arg9 k acc).2)) := by
  have h0 := group0 arg5 arg6 arg7 arg8 arg9 v173 X_arg5 X_arg6 X_arg7 X_arg8 X_arg9 k acc
  have h1 := group1 arg5 arg6 arg7 arg8 arg9 v173 X_arg5 X_arg6 X_arg7 X_arg8 X_arg9 k acc
  have h2 := group2 arg5 arg6 arg7 arg8 arg9 v173 X_arg5 X_arg6 X_arg7 X_arg8 X_arg9 k acc
  have h3 : trip16 arg5 arg6 arg7 arg8 arg9 v173 X_arg5 X_arg6 X_arg7 X_arg8 X_arg9 k acc
      = groupAt arg5 arg6 arg7 arg8 arg9 v173 X_arg5 X_arg6 X_arg7 X_arg8 X_arg9 k 3 acc (Gen.trip_k0_t1.sl.v637 arg5 arg6 arg7 arg8 arg9 v173 X_arg5 X_arg6 X_arg7 X_arg8 X_arg9 k acc, Gen.trip_k0_t1.sl.v644 arg5 arg6 arg7 arg8 arg9 v173 X_arg5 X_arg6 X_arg7 X_arg8 X_arg9 k acc) := by
    rw [h2, h1, h0]; rfl
  rw [h3]
  unfold Gen.tripR_k0_t1 Gen.trip_k0_t1
  rfl

end Cert.KernelIdeal.Window

end
-- ==== Proof.KI.WindowValue.lean ====
/- What a window of sixteen steps computes: on the logarithms of rows of non-negative reals, the logarithms of the rows after
   sixteen plain steps. The references are positive wherever they divide, so dividing by them and multiplying back is exact. -/
module

public import proofs.«01_k».proof.Proof.KI.Trip

@[expose] public section

set_option maxRecDepth 16384

noncomputable section

namespace Cert.KernelIdeal.Window

open Idealize.ShloMosaic Cert.KernelIdeal Cert.KernelIdeal.Facts₀ Cert.Math
open Cert.KernelIdeal.Gen (facts)
open scoped NNReal

/-- The vector holding the logarithms of the rows `a`. -/
def lvec (a : L) : R := fun i => ell (a (i 0) (i 1).val)

/-- Each sequence's largest entry: blanks up to column 64, labels up to column 63. -/
def top (a b : L) (r : Fin 16) : ℝ≥0 :=
  max (Finset.univ.sup fun j : Fin 65 => a r j.val) (Finset.univ.sup fun j : Fin 64 => b r j.val)

/-- The least reference: the largest entry times `e ^ (-75)`. -/
def least (a b : L) (r : Fin 16) : ℝ≥0 := top a b r * pexp (-75)

/-- The references of the rows `x`. -/
def refr (a b x : L) : L := fun r j => max (x r j) (least a b r)

/-- The labels' references shifted by one column. -/
def refsh (a b : L) : L := fun r j => if j = 0 then least a b r else refr a b b r (j - 1)

/-- A least reference of zero leaves the row zero. -/
theorem least_zero {a b : L} {r : Fin 16} (h : least a b r = 0) :
    (∀ j ≤ 64, a r j = 0) ∧ ∀ j < 64, b r j = 0 := by
  have ht : top a b r = 0 := (mul_eq_zero.1 h).resolve_right (pexp_ne_zero _)
  refine ⟨fun j hj => ?_, fun j hj => ?_⟩
  · exact le_antisymm (((Finset.le_sup (f := fun j : Fin 65 => a r j.val) (Finset.mem_univ (⟨j, by omega⟩ : Fin 65))).trans
      (le_max_left _ _)).trans ht.le) bot_le
  · exact le_antisymm (((Finset.le_sup (f := fun j : Fin 64 => b r j.val) (Finset.mem_univ (⟨j, hj⟩ : Fin 64))).trans
      (le_max_right _ _)).trans ht.le) bot_le

/-- A reference of zero leaves the entry and the least reference zero. -/
theorem refr_zero {a b x : L} {r : Fin 16} {j : ℕ} (h : refr a b x r j = 0) : x r j = 0 ∧ least a b r = 0 :=
  ⟨le_antisymm (h ▸ le_max_left _ _) bot_le, le_antisymm (h ▸ le_max_right _ _) bot_le⟩

/-- A reference of a label shifted is zero only if the least reference is. -/
theorem refsh_zero {a b : L} {r : Fin 16} {j : ℕ} (hj : j ≤ 64) (h : least a b r = 0) : refsh a b r j = 0 := by
  unfold refsh
  split
  · exact h
  · unfold refr; rw [h, (least_zero h).2 _ (by omega), max_self]

/-- The bit pattern of the clamp denotes 75. -/
theorem ofBits_75 : (Scalar.ofBits .f32 0x42960000#32 : Ideal .f32) = ((75 : ℝ) : EReal) := by
  show Ideal.ofBits .f32 0x42960000#32 = _
  simp [Ideal.ofBits, Ideal.ieee, -EReal.coe_mul]; norm_num

/-- The clamp's floor of two rows of logarithms. -/
theorem low_lvec (a b : L) (i : S16x1.Idx) : low (lvec a) (lvec b) i = ell (least a b (i 0)) := by
  have e1 : multiReduction .maximumf [1] S16 (lvec a) 0xFF800000#32 reduces_S16x65_S16 (.inl rfl) rfl (ix1 (i 0))
      = ell (Finset.univ.sup fun j : Fin 65 => a (i 0) j.val) := by
    rw [← ell_fold_max]
    pointwise
    rfl
  have e2 : multiReduction .maximumf [1] S16 (extractStridedSlice S16x64 ![0, 0] (lvec b) slices_S16x65_o0_0_S16x64) 0xFF800000#32 reduces_S16x64_S16 (.inl rfl) rfl (ix1 (i 0))
      = ell (Finset.univ.sup fun j : Fin 64 => b (i 0) j.val) := by
    rw [← ell_fold_max]
    pointwise
    rfl
  have e4 : ∀ r, ell (least a b r) = max (ell (Finset.univ.sup fun j : Fin 65 => a r j.val))
      (ell (Finset.univ.sup fun j : Fin 64 => b r j.val)) - ((75 : ℝ) : EReal) := fun r => by
    rw [ell_max, ell_sub_coe]; rfl
  refine Eq.trans ?_ (e4 (i 0)).symm
  rw [← e1, ← e2, ← ofBits_75]
  pointwise [low]

/-- The logarithm of a clamped reference. -/
theorem refr_ell (a b x : L) (r : Fin 16) (j : ℕ) : ell (refr a b x r j) = max (ell (x r j)) (ell (least a b r)) :=
  (ell_max _ _).symm

/-- The clamp's floor, at every place. -/
theorem low_bcast (a b : L) (i : S16x65.Idx) :
    broadcastTo S16x65 (low (lvec a) (lvec b)) broadcasts_S16x1_S16x65 i = ell (least a b (i 0)) := by
  refine Eq.trans ?_ (low_lvec a b (ix2 (i 0) 0))
  pointwise

/-- The even states' clamped references. -/
theorem refE_lvec (a b : L) : refE (lvec a) (lvec b) = lvec (refr a b a) := by
  funext i
  exact (congrArg (max (lvec a i)) (low_bcast a b i)).trans (refr_ell a b a _ _).symm

/-- The odd states' clamped references. -/
theorem refO_lvec (a b : L) : refO (lvec a) (lvec b) = lvec (refr a b b) := by
  funext i
  exact (congrArg (max (lvec b i)) (low_bcast a b i)).trans (refr_ell a b b _ _).symm

/-- The odd states' clamped references, shifted. -/
theorem refS_lvec (a b : L) : refS (lvec a) (lvec b) = lvec (refsh a b) := by
  funext i
  have h : ∀ r : Fin 16, ∀ j, ell (refsh a b r j) = if j = 0 then ell (least a b r) else ell (refr a b b r (j - 1)) := fun r j => by
    unfold refsh; split <;> rfl
  refine Eq.trans ?_ (h (i 0) (i 1).val).symm
  rw [refS, refO_lvec]
  generalize hl : low (lvec a) (lvec b) = l
  have hl' : ∀ q : S16x1.Idx, l q = ell (least a b (q 0)) := fun q => hl ▸ low_lvec a b q
  pointwise
  by_cases h0 : (i 1).val = 0
  · rw [dif_pos (by omega), if_pos h0, hl']; rfl
  · rw [dif_neg (by omega), if_neg h0]; rfl

/-- A quotient that is zero wherever it divides by zero, multiplied back. -/
theorem mul_div_back {x y : ℝ≥0} (h : y = 0 → x = 0) : y * (x / y) = x := by
  rcases eq_or_ne y 0 with e | e
  · rw [e, h e, zero_mul]
  · exact mul_div_cancel₀ _ e

/-- The ratio of the rows `x` and `y`. -/
def ratio (x y : L) : L := fun r j => x r j / y r j

/-- The exponential of a difference of two rows of logarithms is their quotient. -/
theorem exp_sub_lvec {x y : L} (h : ∀ r, ∀ j ≤ 64, y r j = 0 → x r j = 0) : exp (subf (lvec x) (lvec y)) = vec (ratio x y) := by
  funext i
  exact exp_ell_sub (h (i 0) (i 1).val (by have := (i 1).isLt; have e : S16x65.size 1 = 65 := rfl; omega))

/-- An even reference of zero has a shifted reference of zero. -/
theorem zE (a b : L) : ∀ r, ∀ j ≤ 64, refr a b a r j = 0 → refsh a b r j = 0 :=
  fun _ _ hj h => refsh_zero hj (refr_zero h).2
/-- An odd reference of zero has an even reference of zero. -/
theorem zO (a b : L) : ∀ r, ∀ j ≤ 64, refr a b b r j = 0 → refr a b a r j = 0 := fun r j hj h => by
  have h2 := (refr_zero h).2
  unfold refr; rw [h2, (least_zero h2).1 _ hj, max_self]
/-- An odd reference of zero has a shifted reference of zero. -/
theorem zS (a b : L) : ∀ r, ∀ j ≤ 64, refr a b b r j = 0 → refsh a b r j = 0 :=
  fun _ _ hj h => refsh_zero hj (refr_zero h).2
/-- A clamped reference of zero has an entry of zero. -/
theorem zU (a b x : L) : ∀ r, ∀ j ≤ 64, refr a b x r j = 0 → x r j = 0 := fun _ _ _ h => (refr_zero h).1

/-- The even states' factor. -/
theorem gE_lvec (a b : L) : gE (lvec a) (lvec b) = vec (ratio (refsh a b) (refr a b a)) := by
  rw [gE, refS_lvec, refE_lvec, exp_sub_lvec (zE a b)]
/-- The odd states' factor. -/
theorem gO_lvec (a b : L) : gO (lvec a) (lvec b) = vec (ratio (refr a b a) (refr a b b)) := by
  rw [gO, refO_lvec, refE_lvec, exp_sub_lvec (zO a b)]
/-- The skips' factor. -/
theorem gS_lvec (a b s : L) : gS (lvec a) (lvec b) (vec s) = vec (ratio (refsh a b) (refr a b b) * s) := by
  rw [gS, refS_lvec, refO_lvec, exp_sub_lvec (zS a b), vec_mul]
/-- The unscaled rows a window begins with. -/
theorem unit_lvec (a b : L) :
    unit (lvec a) (lvec b) = (vec (ratio a (refr a b a)), vec (ratio b (refr a b b))) := by
  rw [unit, refO_lvec, refE_lvec, exp_sub_lvec (zU a b a), exp_sub_lvec (zU a b b)]

/-- Four unrolled steps on loaded blocks of probabilities are four plain steps. -/
theorem groupOf_vec (g h k : L) (p : ℕ → L) (q : ℕ → Fin 16 → ℝ≥0) (pq bq : Vec Ideal S4x16x65 .f32)
    (sq : Vec Ideal S3x16x65 .f32) (tq : Vec Ideal S2x16x65 .f32) (wq : Vec Ideal S1x16x65 .f32)
    (hp : ∀ (t : Fin 4) (i : S16x65.Idx), pq (ix3 t (i 0) (i 1)) = vec (p t.val) i)
    (hb : ∀ (t : Fin 4) (i : S16x65.Idx), bq (ix3 t (i 0) (i 1)) = vec (con (q t.val)) i)
    (hs : ∀ (t : Fin 3) (i : S16x65.Idx), sq (ix3 t (i 0) (i 1)) = vec (S (p t.val)) i)
    (ht : ∀ (t : Fin 2) (i : S16x65.Idx), tq (ix3 t (i 0) (i 1)) = vec (S (S (p t.val))) i)
    (hw : ∀ (t : Fin 1) (i : S16x65.Idx), wq (ix3 t (i 0) (i 1)) = vec (S (S (S (p t.val)))) i) (u : L × L) :
    groupOf (vec g) (vec h) (vec k) pq bq sq tq wq (vec u.1, vec u.2)
      = (vec (steps (fun i => stepL g h k (p i) (q i)) u 4).1, vec (steps (fun i => stepL g h k (p i) (q i)) u 4).2) := by
  have p0 : row4_0 pq = vec (p 0) := by funext i; refine Eq.trans ?_ (hp 0 i); pointwise
  have p1 : row4_1 pq = vec (p 1) := by funext i; refine Eq.trans ?_ (hp 1 i); pointwise
  have p2 : row4_2 pq = vec (p 2) := by funext i; refine Eq.trans ?_ (hp 2 i); pointwise
  have p3 : row4_3 pq = vec (p 3) := by funext i; refine Eq.trans ?_ (hp 3 i); pointwise
  have b0 : row4_0 bq = vec (con (q 0)) := by funext i; refine Eq.trans ?_ (hb 0 i); pointwise
  have b1 : row4_1 bq = vec (con (q 1)) := by funext i; refine Eq.trans ?_ (hb 1 i); pointwise
  have b2 : row4_2 bq = vec (con (q 2)) := by funext i; refine Eq.trans ?_ (hb 2 i); pointwise
  have b3 : row4_3 bq = vec (con (q 3)) := by funext i; refine Eq.trans ?_ (hb 3 i); pointwise
  have s0 : row3_0 sq = vec (S (p 0)) := by funext i; refine Eq.trans ?_ (hs 0 i); pointwise
  have s1 : row3_1 sq = vec (S (p 1)) := by funext i; refine Eq.trans ?_ (hs 1 i); pointwise
  have s2 : row3_2 sq = vec (S (p 2)) := by funext i; refine Eq.trans ?_ (hs 2 i); pointwise
  have t0 : row2_0 tq = vec (S (S (p 0))) := by funext i; refine Eq.trans ?_ (ht 0 i); pointwise
  have t1 : row2_1 tq = vec (S (S (p 1))) := by funext i; refine Eq.trans ?_ (ht 1 i); pointwise
  have w0 : row1 wq = vec (S (S (S (p 0)))) := by funext i; refine Eq.trans ?_ (hw 0 i); pointwise
  rw [groupOf, p0, p1, p2, p3, b0, b1, b2, b3, s0, s1, s2, t0, t1, w0]
  exact group_vec g h k p q u

/-- Steps on all rows are steps on each row. -/
theorem steps_row (g h k : L) (p : ℕ → L) (q : ℕ → Fin 16 → ℝ≥0) (u : L × L) (r : Fin 16) :
    ∀ n, ((steps (fun i => stepL g h k (p i) (q i)) u n).1 r, (steps (fun i => stepL g h k (p i) (q i)) u n).2 r)
      = steps (fun i => ustep (g r) (h r) (k r) (p i r) (q i r)) (u.1 r, u.2 r) n
  | 0 => rfl
  | n + 1 => by
    rw [steps, steps, ← steps_row g h k p q u r n]
    refine Prod.ext ?_ ?_
    all_goals (funext j; rfl)

/-- `n` plain steps on all rows, undivided. -/
def adv (s : L) (p : ℕ → L) (q : ℕ → Fin 16 → ℝ≥0) (x : L × L) (n : ℕ) : L × L :=
  (fun r => (steps (fun i => nstep (s r) (p i r) (q i r)) (x.1 r, x.2 r) n).1,
   fun r => (steps (fun i => nstep (s r) (p i r) (q i r)) (x.1 r, x.2 r) n).2)

/-- The references times the divided rows after `n` steps are the rows after `n` steps. -/
theorem refs_steps (a b s : L) (p : ℕ → L) (q : ℕ → Fin 16 → ℝ≥0) (n : ℕ) :
    let u := steps (fun i => stepL (ratio (refsh a b) (refr a b a)) (ratio (refr a b a) (refr a b b))
      (ratio (refsh a b) (refr a b b) * s) (p i) (q i)) (ratio a (refr a b a), ratio b (refr a b b)) n
    addf (lvec (refr a b a)) (log (vec u.1)) = lvec (adv s p q (a, b) n).1
      ∧ addf (lvec (refr a b b)) (log (vec u.2)) = lvec (adv s p q (a, b) n).2 := by
  intro u
  have key : ∀ r, Scaled (refr a b a r) (refr a b b r) (u.1 r, u.2 r)
      (steps (fun i => nstep (s r) (p i r) (q i r)) (a r, b r) n) := fun r => by
    rw [steps_row]
    refine Scaled.steps (fun j hj => ?_) (fun j hj => mul_div_back (zO a b r j hj)) (fun j hj => ?_)
      (fun j hj => ⟨mul_div_back (zU a b a r j hj), mul_div_back (zU a b b r j hj)⟩) _ _ n
    · exact mul_div_back (zE a b r (j + 1) (by omega))
    · show refr a b b r (j + 1) * (refsh a b r (j + 1) / refr a b b r (j + 1) * s r (j + 1)) = _
      rw [← mul_assoc, mul_div_back (zS a b r (j + 1) (by omega))]
      rfl
  have hlt : ∀ i : S16x65.Idx, (i 1).val ≤ 64 := fun i => by
    have := (i 1).isLt; have e : S16x65.size 1 = 65 := rfl; omega
  constructor
  · funext i
    exact (ell_mul _ _).symm.trans (congrArg ell (key (i 0) (i 1).val (hlt i)).1)
  · funext i
    exact (ell_mul _ _).symm.trans (congrArg ell (key (i 0) (i 1).val (hlt i)).2)

end Cert.KernelIdeal.Window

end
-- ==== Proof.KI.Sweep.lean ====
/- The kernel's window loop over one block: with the scratch arrays holding the block's probabilities and their shifts, each
   trip advances the rows by sixteen plain steps, and the whole loop by 256. -/
module

public import proofs.«01_k».proof.Proof.KI.WindowValue
public import Idealize.ShloMosaic.Lib.Pipeline.ValueKit

@[expose] public section

set_option maxRecDepth 16384

noncomputable section

namespace Cert.KernelIdeal.Window

open Idealize.ShloMosaic Idealize.ShloMosaic.TcCoe Cert.KernelIdeal Cert.KernelIdeal.Facts₀ Cert.Math
open Cert.KernelIdeal.Gen (facts)
open scoped NNReal

/-- A block of 256 steps' rows. -/
def blk (p : ℕ → L) : Vec Ideal S256x16x65 .f32 := fun i => up (p (i 0).val (i 1) (i 2).val)

/-- A load from a block of rows: the rows of the steps it covers. -/
theorem blk_idx (p : ℕ → L) (off size : Fin 3 → ℕ) (inb : ∀ a, off a + size a ≤ S256x16x65.size a) (n : ℕ)
    (h0 : off = ![n, 0, 0]) (x : (Rect.unit (s := S256x16x65) off size inb).shape.Idx) (r : Fin 16) (j : ℕ)
    (h1 : (x 1).val = r.val) (h2 : (x 2).val = j) :
    blk p ((Rect.unit (s := S256x16x65) off size inb).idx x) = up (p (n + (x 0).val) r j) := by
  subst h0
  have e0 : ((Rect.unit (s := S256x16x65) ![n, 0, 0] size inb).idx x 0).val = n + (x 0).val := Rect.idx_unit_val _ _ _ _ _
  have e1 : (Rect.unit (s := S256x16x65) ![n, 0, 0] size inb).idx x 1 = r :=
    Fin.ext ((Rect.idx_unit_val _ _ _ _ _).trans ((Nat.zero_add _).trans h1))
  have e2 : ((Rect.unit (s := S256x16x65) ![n, 0, 0] size inb).idx x 2).val = j :=
    (Rect.idx_unit_val _ _ _ _ _).trans ((Nat.zero_add _).trans h2)
  unfold blk
  rw [e0, e1, e2]

/-- A group of a trip is four plain steps of the divided rows. -/
theorem groupAt_vec (arg5 arg6 arg7 arg8 arg9 : Memref sig .tc .vmem S256x16x65 .f32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (a b s : L) (p : ℕ → L) (q : ℕ → Fin 16 → ℝ≥0) (g h k : L) (w : Fin k0_t1_loop.trips) (r : Fin 4) (acc : R × R)
    (hX5 : arg5.view.read (Elt Ideal) X_arg5 = blk p) (hX6 : arg6.view.read (Elt Ideal) X_arg6 = blk fun t => S (p t))
    (hX7 : arg7.view.read (Elt Ideal) X_arg7 = blk fun t => S (S (p t))) (hX8 : arg8.view.read (Elt Ideal) X_arg8 = blk fun t => S (S (S (p t))))
    (hX9 : arg9.view.read (Elt Ideal) X_arg9 = blk fun t => con (q t))
    (hg : gE acc.1 acc.2 = vec g) (hh : gO acc.1 acc.2 = vec h) (hk : gS acc.1 acc.2 (vec s) = vec k) (u : L × L) :
    groupAt arg5 arg6 arg7 arg8 arg9 (vec s) X_arg5 X_arg6 X_arg7 X_arg8 X_arg9 w r acc (vec u.1, vec u.2)
      = (vec (steps (fun i => stepL g h k (p (16 * w.val + 4 * r.val + i)) (q (16 * w.val + 4 * r.val + i))) u 4).1,
         vec (steps (fun i => stepL g h k (p (16 * w.val + 4 * r.val + i)) (q (16 * w.val + 4 * r.val + i))) u 4).2) := by
  unfold groupAt
  rw [hg, hh, hk]
  refine groupOf_vec g h k (fun i => p (16 * w.val + 4 * r.val + i)) (fun i => q (16 * w.val + 4 * r.val + i)) _ _ _ _ _
    (fun t i => ?_) (fun t i => ?_) (fun t i => ?_) (fun t i => ?_) (fun t i => ?_) u
  · rw [View.readAt_eq_ld, hX5]
    exact blk_idx _ _ _ _ _ (Gen.k0_off1_eq w r) _ _ _ rfl rfl
  · rw [View.readAt_eq_ld, hX9]
    exact blk_idx _ _ _ _ _ (Gen.k0_off1_eq w r) _ _ _ rfl rfl
  · rw [View.readAt_eq_ld, hX6]
    exact blk_idx _ _ _ _ _ (Gen.k0_off2_eq w r) _ _ _ rfl rfl
  · rw [View.readAt_eq_ld, hX7]
    exact blk_idx _ _ _ _ _ (Gen.k0_off3_eq w r) _ _ _ rfl rfl
  · rw [View.readAt_eq_ld, hX8]
    exact blk_idx _ _ _ _ _ (Gen.k0_off4_eq w r) _ _ _ rfl rfl

/-- The four groups of a trip are sixteen plain steps of the divided rows. -/
theorem trip16_vec (arg5 arg6 arg7 arg8 arg9 : Memref sig .tc .vmem S256x16x65 .f32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (a b s : L) (p : ℕ → L) (q : ℕ → Fin 16 → ℝ≥0) (w : Fin k0_t1_loop.trips)
    (hX5 : arg5.view.read (Elt Ideal) X_arg5 = blk p) (hX6 : arg6.view.read (Elt Ideal) X_arg6 = blk fun t => S (p t))
    (hX7 : arg7.view.read (Elt Ideal) X_arg7 = blk fun t => S (S (p t))) (hX8 : arg8.view.read (Elt Ideal) X_arg8 = blk fun t => S (S (S (p t))))
    (hX9 : arg9.view.read (Elt Ideal) X_arg9 = blk fun t => con (q t)) :
    let f := fun i => stepL (ratio (refsh a b) (refr a b a)) (ratio (refr a b a) (refr a b b))
      (ratio (refsh a b) (refr a b b) * s) (p (16 * w.val + i)) (q (16 * w.val + i))
    trip16 arg5 arg6 arg7 arg8 arg9 (vec s) X_arg5 X_arg6 X_arg7 X_arg8 X_arg9 w (lvec a, lvec b)
      = (vec (steps f (ratio a (refr a b a), ratio b (refr a b b)) 16).1,
         vec (steps f (ratio a (refr a b a), ratio b (refr a b b)) 16).2) := by
  intro f
  have G := fun r u => groupAt_vec arg5 arg6 arg7 arg8 arg9 X_arg5 X_arg6 X_arg7 X_arg8 X_arg9 a b s p q _ _ _ w r (lvec a, lvec b)
    hX5 hX6 hX7 hX8 hX9 (gE_lvec a b) (gO_lvec a b) (gS_lvec a b s) u
  unfold trip16
  rw [unit_lvec, G 0 (ratio a (refr a b a), ratio b (refr a b b)), G 1, G 2, G 3]
  generalize (ratio a (refr a b a), ratio b (refr a b b)) = u0
  have e : steps f u0 16 = steps (fun i => f (12 + i)) (steps (fun i => f (8 + i)) (steps (fun i => f (4 + i)) (steps f u0 4) 4) 4) 4 := by
    rw [← steps_add f u0 4 4, ← steps_add f u0 8 4, ← steps_add f u0 12 4]
  rw [e]
  rfl

/-- One trip advances the rows by sixteen plain steps. -/
theorem trip_value (𝒱 : Variants) (c : Dev nD) (bd : Option 𝒱.V) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (arg0 : BitVec 32) (v133 : Vec Ideal S256x16x1 .f32) (v136 : FVec Ideal S256x16x1 .f32) (v156 : FVec Ideal S256x16x65 .f32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (a b s : L) (p : ℕ → L) (q : ℕ → Fin 16 → ℝ≥0) (w : Fin k0_t1_loop.trips)
    (hX5 : arg5.view.read (Elt Ideal) X_arg5 = blk p) (hX6 : arg6.view.read (Elt Ideal) X_arg6 = blk fun t => S (p t))
    (hX7 : arg7.view.read (Elt Ideal) X_arg7 = blk fun t => S (S (p t))) (hX8 : arg8.view.read (Elt Ideal) X_arg8 = blk fun t => S (S (S (p t))))
    (hX9 : arg9.view.read (Elt Ideal) X_arg9 = blk fun t => con (q t)) :
    Gen.tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v133 v136 v156 (vec s) X_arg5 X_arg6 X_arg7 X_arg8 X_arg9 w (lvec a, lvec b)
      = (lvec (adv s (fun i => p (16 * w.val + i)) (fun i => q (16 * w.val + i)) (a, b) 16).1,
         lvec (adv s (fun i => p (16 * w.val + i)) (fun i => q (16 * w.val + i)) (a, b) 16).2) := by
  obtain ⟨h1, h2⟩ := refs_steps a b s (fun i => p (16 * w.val + i)) (fun i => q (16 * w.val + i)) 16
  rw [trip_eq, trip16_vec arg5 arg6 arg7 arg8 arg9 X_arg5 X_arg6 X_arg7 X_arg8 X_arg9 a b s p q w hX5 hX6 hX7 hX8 hX9,
    refE_lvec, refO_lvec, h1, h2]

/-- Plain steps on all rows, one stretch after another. -/
theorem adv_add (s : L) (p : ℕ → L) (q : ℕ → Fin 16 → ℝ≥0) (x : L × L) (n k : ℕ) :
    adv s p q x (n + k) = adv s (fun i => p (n + i)) (fun i => q (n + i)) (adv s p q x n) k := by
  refine Prod.ext ?_ ?_
  all_goals
    funext r
    simp only [adv, steps_add]

/-- After `n` trips the rows are advanced by `16 n` plain steps. -/
theorem loop_value (𝒱 : Variants) (c : Dev nD) (bd : Option 𝒱.V) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (arg0 : BitVec 32) (v133 : Vec Ideal S256x16x1 .f32) (v136 : FVec Ideal S256x16x1 .f32) (v156 : FVec Ideal S256x16x65 .f32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (a b s : L) (p : ℕ → L) (q : ℕ → Fin 16 → ℝ≥0)
    (hX5 : arg5.view.read (Elt Ideal) X_arg5 = blk p) (hX6 : arg6.view.read (Elt Ideal) X_arg6 = blk fun t => S (p t))
    (hX7 : arg7.view.read (Elt Ideal) X_arg7 = blk fun t => S (S (p t))) (hX8 : arg8.view.read (Elt Ideal) X_arg8 = blk fun t => S (S (S (p t))))
    (hX9 : arg9.view.read (Elt Ideal) X_arg9 = blk fun t => con (q t)) :
    ∀ n ≤ 16, Gen.st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v133 v136 v156 (vec s) X_arg5 X_arg6 X_arg7 X_arg8 X_arg9 (lvec a, lvec b) n
      = (lvec (adv s p q (a, b) (16 * n)).1, lvec (adv s p q (a, b) (16 * n)).2)
  | 0, _ => Gen.st_k0_t1_zero ..
  | n + 1, hn => by
    have ht : n < k0_t1_loop.trips := lt_of_lt_of_eq (Nat.lt_of_succ_le hn) (by decide +kernel)
    rw [Gen.st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg0 v133 v136 v156 (vec s) X_arg5 X_arg6 X_arg7 X_arg8 X_arg9 _ ⟨n, ht⟩]
    show Gen.tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v133 v136 v156 (vec s) X_arg5 X_arg6 X_arg7 X_arg8 X_arg9 ⟨n, ht⟩ (Gen.st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v133 v136 v156 (vec s) X_arg5 X_arg6 X_arg7 X_arg8 X_arg9 (lvec a, lvec b) n) = _
    rw [loop_value 𝒱 c bd i arg1 harg1 arg2 harg2 arg3 harg3 arg4 harg4 arg5 harg5 arg6 harg6 arg7 harg7 arg8 harg8 arg9 harg9 arg10 harg10 arg11 harg11 arg12 harg12 arg13 harg13 arg0 v133 v136 v156  X_arg5 X_arg6 X_arg7 X_arg8 X_arg9 a b s p q hX5 hX6 hX7 hX8 hX9 n (by omega),
      trip_value 𝒱 c bd i arg1 harg1 arg2 harg2 arg3 harg3 arg4 harg4 arg5 harg5 arg6 harg6 arg7 harg7 arg8 harg8 arg9 harg9 arg10 harg10 arg11 harg11 arg12 harg12 arg13 harg13 arg0 v133 v136 v156  X_arg5 X_arg6 X_arg7 X_arg8 X_arg9 _ _ s p q ⟨n, ht⟩ hX5 hX6 hX7 hX8 hX9,
      show 16 * (n + 1) = 16 * n + 16 from rfl, adv_add]

end Cert.KernelIdeal.Window

end
-- ==== Proof.Math.Problem.lean ====
/- The problem in real numbers: the probabilities of the extended label sequence, which transitions may skip a blank, and the
   total probability of each sequence; and the same total from the rows of blanks and labels divided by each step's largest
   entry. -/
module

public import proofs.«01_k».proof.Proof.Math.Recursion
public import proofs.«01_k».proof.Proof.Math.Scale

@[expose] public section

noncomputable section

namespace Cert.Math

open scoped NNReal

variable (e : ℕ → Fin 16 → ℕ → ℝ≥0) (lab : Fin 16 → ℕ → ℕ)

/-- The larger of a step's label entries and its blank's. -/
def big (t : ℕ) (b : Fin 16) : ℝ≥0 := max (Finset.univ.sup fun j : Fin 64 => e t b (lab b j.val)) (e t b 0)

/-- The label entries divided by the step's largest, with a zero in column 64. -/
def pr (t : ℕ) (b : Fin 16) (j : ℕ) : ℝ≥0 := if j < 64 then e t b (lab b j) / big e lab t b else 0

/-- The blank entry divided by the step's largest. -/
def qr (t : ℕ) (b : Fin 16) : ℝ≥0 := e t b 0 / big e lab t b

/-- Whether label `j` may be reached past the blank before it: it differs from the label before it. -/
def sk (b : Fin 16) (j : ℕ) : ℝ≥0 := if 1 ≤ j ∧ j < 64 ∧ lab b j ≠ lab b (j - 1) then 1 else 0

/-- The extended label sequence: blanks at even places, labels at odd ones. -/
def ext (b : Fin 16) (σ : ℕ) : ℕ := if σ % 2 = 0 then 0 else lab b (σ / 2)

/-- The weight of a transition past the place before. -/
def skp (b : Fin 16) (σ : ℕ) : ℝ≥0 := if σ % 2 = 0 then 0 else sk lab b (σ / 2)

/-- The sum over the first `t` steps' paths ending at place `σ`. -/
def fwd (b : Fin 16) (t σ : ℕ) : ℝ≥0 := ctc (fun i ρ => e i b (ext lab b ρ)) (skp lab b) t σ

/-- A sequence's total probability. -/
def score (b : Fin 16) : ℝ≥0 := fwd e lab b 1024 128 + fwd e lab b 1024 127

/-- A largest entry of zero leaves the blank's and all the labels' entries zero. -/
theorem big_zero {t : ℕ} {b : Fin 16} (h : big e lab t b = 0) : e t b 0 = 0 ∧ ∀ j < 64, e t b (lab b j) = 0 := by
  have h0 := le_of_eq h
  rw [big, max_le_iff, Finset.sup_le_iff] at h0
  exact ⟨le_antisymm h0.2 bot_le, fun j hj => le_antisymm (h0.1 ⟨j, hj⟩ (Finset.mem_univ _)) bot_le⟩

/-- The blank's entry is its quotient times the largest. -/
theorem qr_mul (t : ℕ) (b : Fin 16) : e t b 0 = qr e lab t b * big e lab t b := by
  rw [qr]
  by_cases h : big e lab t b = 0
  · rw [h, mul_zero, (big_zero e lab h).1]
  · exact (div_mul_cancel₀ _ h).symm

/-- A label's entry is its quotient times the largest. -/
theorem pr_mul (t : ℕ) (b : Fin 16) {j : ℕ} (hj : j < 64) : e t b (lab b j) = pr e lab t b j * big e lab t b := by
  rw [pr, if_pos hj]
  by_cases h : big e lab t b = 0
  · rw [h, mul_zero, (big_zero e lab h).2 j hj]
  · exact (div_mul_cancel₀ _ h).symm

/-- The last two sums of paths from the divided rows. -/
theorem fwd_eq (b : Fin 16) (n : ℕ) :
    ((steps (fun i => nstep (sk lab b) (pr e lab i b) (qr e lab i b)) rows0 n).1 64
      + (steps (fun i => nstep (sk lab b) (pr e lab i b) (qr e lab i b)) rows0 n).2 63) * ∏ i ∈ Finset.range n, big e lab i b
      = fwd e lab b n 128 + fwd e lab b n 127 := by
  have hh (j : ℕ) : (2 * j + 1) % 2 = 1 ∧ (2 * j + 1) / 2 = j ∧ (2 * j) % 2 = 0 := by omega
  have h := ctc_eq (fun i ρ => e i b (ext lab b ρ)) (skp lab b) (sk lab b) (fun i => big e lab i b) (fun i => qr e lab i b)
    (fun i => pr e lab i b) (fun j => by rw [skp, if_pos (hh j).2.2])
    (fun j hj => by rw [skp, if_neg (by rw [(hh j).1]; decide), (hh j).2.1])
    (fun t j hj => by rw [ext, if_pos (hh j).2.2]; exact qr_mul e lab t b)
    (fun t j hj => by rw [ext, if_neg (by rw [(hh j).1]; decide), (hh j).2.1]; exact pr_mul e lab t b hj) n
  rw [add_mul]
  exact congrArg₂ (· + ·) (h.1 64 (by norm_num)).symm (h.2 63 (by norm_num)).symm

/-- A sequence's total probability from the divided rows after all steps. -/
theorem score_eq (b : Fin 16) :
    ((steps (fun i => nstep (sk lab b) (pr e lab i b) (qr e lab i b)) rows0 1024).1 64
      + (steps (fun i => nstep (sk lab b) (pr e lab i b) (qr e lab i b)) rows0 1024).2 63) * ∏ i ∈ Finset.range 1024, big e lab i b
      = score e lab b := fwd_eq e lab b 1024

end Cert.Math
end
end
-- ==== Proof.KI.Payload.lean ====
/- The vectors a block computes, read off its log-probabilities: the largest entries, the divided probabilities and their shifts,
   the one-hot rows and what a product with one gathers. -/
module

public import proofs.«01_k».proof.Proof.KI.Sweep
public import proofs.«01_k».proof.Proof.Math.Problem

@[expose] public section

set_option maxRecDepth 16384

noncomputable section

namespace Cert.KernelIdeal.Window

open Idealize.ShloMosaic Idealize.ShloMosaic.TcCoe Cert.KernelIdeal Cert.KernelIdeal.Facts₀ Cert.Math
open Cert.KernelIdeal.Gen (facts)
open scoped NNReal

variable (e : ℕ → Fin 16 → ℕ → ℝ≥0) (lab : Fin 16 → ℕ → ℕ)

/-- A block's log-probabilities. -/
def lpV : Vec Ideal S256x16x512 .f32 := fun i => ell (e (i 0).val (i 1) (i 2).val)
/-- The labels' log-probabilities in a block. -/
def labV : Vec Ideal S256x16x64 .f32 := fun i => ell (e (i 0).val (i 1) (lab (i 1) (i 2).val))
/-- The blank's log-probabilities in a block. -/
def blankV : Vec Ideal S256x16x1 .f32 := fun i => ell (e (i 0).val (i 1) 0)
/-- The largest log-probabilities in a block. -/
def bigV : Vec Ideal S256x16x1 .f32 := fun i => ell (big e lab (i 0).val (i 1))
/-- The labels as words. -/
def labW : Vec Ideal S16x64 .i32 := fun i => BitVec.ofNat 32 (lab (i 0) (i 1).val)
/-- The table of one-hot rows: class `c` against label `j` of sequence `b`. -/
def tbl : Vec Ideal S16x512x64 .f32 := fun i => up (if (i 1).val = lab (i 0) (i 2).val then 1 else 0)
/-- One sequence's one-hot rows. -/
def hot (b : Fin 16) : Vec Ideal S1x512x64 .f32 := fun i => up (if (i 1).val = lab b (i 2).val then 1 else 0)

/-- The bit pattern of −∞ denotes the least extended real. -/
theorem ofBits_ninf : (Scalar.ofBits .f32 0xFF800000#32 : Ideal .f32) = ⊥ := by
  show Ideal.ofBits .f32 0xFF800000#32 = _
  simp [Ideal.ofBits, Ideal.ieee]

/-- The named constant is least. -/
theorem neg_value : (Named.named Cert.KernelIdeal.κ "neg" 0xF149F2CA#32 : Ideal .f32) = ⊥ := rfl

/-- A select on the equality of two words. -/
theorem sel_eq (a b : BitVec 32) (u v : Ideal .f32) : Scalar.select (IntOp.cmpi CmpIPredicate.eq a b) u v = if a = b then u else v := by
  by_cases h : a = b
  · rw [if_pos h, h]; simp [IntOp.cmpi, Scalar.select]
  · rw [if_neg h]; simp [IntOp.cmpi, Scalar.select, beq_eq_false_iff_ne.2 h]

/-- A select on the inequality of two words. -/
theorem sel_ne (a b : BitVec 32) (u v : Ideal .f32) : Scalar.select (IntOp.cmpi CmpIPredicate.ne a b) u v = if a ≠ b then u else v := by
  by_cases h : a = b
  · rw [if_neg (not_not.2 h), h]; simp [IntOp.cmpi, Scalar.select]
  · rw [if_pos h]; simp [IntOp.cmpi, Scalar.select, bne, beq_eq_false_iff_ne.2 h]

/-- The largest of a step's entries, as the kernel takes it. -/
theorem big_value : Gen.k0_pay151 (labV e lab) (blankV e) = bigV e lab := by
  funext i
  have h : ∀ (t : ℕ) (r : Fin 16), max (Finset.fold max ⊥ (fun x : Fin 64 => ell (e t r (lab r x.val))) Finset.univ) (ell (e t r 0))
      = ell (big e lab t r) := fun t r => by rw [ell_fold_max, ell_max]; rfl
  refine Eq.trans ?_ (h (i 0).val (i 1))
  pointwise [Gen.k0_pay151]
  rw [show Ideal.ofBits .f32 0xFF800000#32 = ⊥ from ofBits_ninf]
  rfl

/-- A label's entry divided by the step's largest. -/
theorem exp_sub_big {t : ℕ} {r : Fin 16} {j : ℕ} (hj : j < 64) :
    Ideal.exp (ell (e t r (lab r j)) - ell (big e lab t r)) = up (pr e lab t r j) := by
  rw [exp_ell_sub fun h => (big_zero e lab h).2 j hj, pr, if_pos hj]

/-- The blank's entry divided by the step's largest. -/
theorem blank_sub_big (t : ℕ) (r : Fin 16) : Ideal.exp (ell (e t r 0) - ell (big e lab t r)) = up (qr e lab t r) := by
  rw [exp_ell_sub fun h => (big_zero e lab h).1, qr]

/-- The column past the labels is zero. -/
theorem pr_top {t : ℕ} {r : Fin 16} {j : ℕ} (hj : ¬ j < 64) : up (pr e lab t r j) = 0 := by rw [pr, if_neg hj, up_zero]

/-- The column put in front of shifted entries is zero. -/
theorem zeros_value (i : S256x16x1.Idx) : Gen.k0_pay152 (F := Ideal) i = 0 := by
  pointwise [Gen.k0_pay152]

/-- The divided label probabilities. -/
theorem pay153 : Gen.k0_pay153 (labV e lab) (blankV e) = blk (pr e lab) := by
  funext i
  rw [Gen.k0_pay153, big_value]
  pointwise []
  by_cases h : (i 2).val < 64
  · rw [dif_pos h]; exact exp_sub_big e lab (t := (i 0).val) (r := i 1) h
  · rw [dif_neg h, zeros_value]; exact (pr_top e lab (t := (i 0).val) (r := i 1) h).symm

/-- The label entries a block stores, divided by the steps' largest. -/
theorem pay154 : Gen.k0_pay154 (labV e lab) (blankV e) = blk (pr e lab) := by
  funext i
  rw [Gen.k0_pay154, pay153]
  pointwise []

/-- A row shifted `n` times, in a block. -/
theorem blk_iter (p : ℕ → L) (n : ℕ) (i : S256x16x65.Idx) :
    blk (fun t => S^[n] (p t)) i = if (i 2).val < n then 0 else up (p (i 0).val (i 1) ((i 2).val - n)) := by
  have h : ∀ (r : Fin 16) (j : ℕ), up (S^[n] (p (i 0).val) r j) = if j < n then 0 else up (p (i 0).val r (j - n)) := fun r j => by
    rw [S_iter]
    show up ((sh^[n] (p (i 0).val r)) j) = _
    rw [iter_sh]
    split
    · exact up_zero
    · rfl
  exact h (i 1) (i 2).val

/-- The same shifted once. -/
theorem pay155 : Gen.k0_pay155 (labV e lab) (blankV e) = blk fun t => S (pr e lab t) := by
  funext i
  rw [show (fun t => S (pr e lab t)) = fun t => S^[1] (pr e lab t) from rfl, blk_iter, Gen.k0_pay155, pay153]
  pointwise []
  by_cases h : (i 2).val < 1
  · rw [dif_pos h, zeros_value, if_pos h]
  · rw [dif_neg h, if_neg h]; rfl

/-- The same shifted twice. -/
theorem pay156 : Gen.k0_pay156 (labV e lab) (blankV e) = blk fun t => S (S (pr e lab t)) := by
  funext i
  rw [show (fun t => S (S (pr e lab t))) = fun t => S^[2] (pr e lab t) from rfl, blk_iter, Gen.k0_pay156, pay153]
  pointwise []
  simp only [zeros_value]
  by_cases h : (i 2).val < 2
  · rw [if_pos h]
    split
    · rfl
    · rw [dif_pos (by omega)]
  · rw [dif_neg (by omega), dif_neg (by omega), if_neg h]; rfl

/-- The same shifted three times. -/
theorem pay157 : Gen.k0_pay158 (Gen.k0_pay157 (labV e lab) (blankV e)) = blk fun t => S (S (S (pr e lab t))) := by
  funext i
  rw [show (fun t => S (S (S (pr e lab t)))) = fun t => S^[3] (pr e lab t) from rfl, blk_iter, Gen.k0_pay158, Gen.k0_pay157, pay153]
  pointwise []
  simp only [zeros_value]
  by_cases h : (i 2).val < 3
  · rw [if_pos h]
    split
    · rfl
    · split
      · rfl
      · rw [dif_pos (by omega)]
  · rw [dif_neg (by omega), dif_neg (by omega), dif_neg (by omega), if_neg h]; rfl

/-- The blank entries a block stores, divided by the steps' largest. -/
theorem pay159 : Gen.k0_pay159 (blankV e) (bigV e lab) = blk fun t => con (qr e lab t) := by
  funext i
  refine Eq.trans ?_ (blank_sub_big e lab (i 0).val (i 1))
  pointwise [Gen.k0_pay159]
  rfl

/-- The accumulated logarithm gains the block's largest entries. -/
theorem pay160 (acc : Vec Ideal S16x1 .f32) (m : Fin 16 → ℝ≥0) (h : acc = fun i => ell (m (i 0))) :
    Gen.k0_pay160 (bigV e lab) acc = fun i => ell (m (i 0) * ∏ t ∈ Finset.range 256, big e lab t (i 0)) := by
  funext i
  have h2 : ∀ r : Fin 16, ell (m r * ∏ t ∈ Finset.range 256, big e lab t r) = ell (m r) + ∑ t : Fin 256, ell (big e lab t.val r) := fun r => by
    rw [ell_mul, ell_prod, Finset.prod_range]
  refine Eq.trans ?_ (h2 (i 0)).symm
  subst h
  pointwise [Gen.k0_pay160]
  rfl

/-- Words of classes are equal where the classes are. -/
theorem ofNat_inj {a b : ℕ} (ha : a < 512) (hb : b < 512) : BitVec.ofNat 32 a = BitVec.ofNat 32 b ↔ a = b :=
  ⟨fun h => by
    have := congrArg BitVec.toNat h
    simp only [BitVec.toNat_ofNat] at this
    omega, fun h => h ▸ rfl⟩

/-- The skips the first block stores. -/
theorem pay128 (hl : ∀ b j, lab b j < 512) :
    Gen.k0_pay128 (F := Ideal) (shapeCast S16x64 (labW lab) shapeCasts_S16x64_S16x64) = vec (sk lab) := by
  funext i
  have h2 : ∀ (r : Fin 16) (j : ℕ), up (sk lab r j) = if j < 1 then 0 else if j - 1 < 63 then
      if lab r (1 + (j - 1)) ≠ lab r (j - 1) then 1 else 0 else 0 := fun r j => by
    rw [sk]
    by_cases h0 : j < 1
    · rw [if_neg (by omega), if_pos h0, up_zero]
    · rw [if_neg h0]
      by_cases h1 : j - 1 < 63
      · rw [if_pos h1, show 1 + (j - 1) = j by omega]
        by_cases h3 : lab r j = lab r (j - 1)
        · rw [if_neg (by omega), if_neg (not_not.2 h3), up_zero]
        · rw [if_pos ⟨by omega, by omega, h3⟩, if_pos h3, up_one]
      · rw [if_neg (by omega), if_neg h1, up_zero]
  refine Eq.trans ?_ (h2 (i 0) (i 1).val).symm
  pointwise [Gen.k0_pay128]
  split
  · rfl
  · split
    · have h3 : ∀ (r : Fin 16) (a b : ℕ), Scalar.select (IntOp.cmpi CmpIPredicate.ne (BitVec.ofNat 32 (lab r a)) (BitVec.ofNat 32 (lab r b)))
          (1 : Ideal .f32) 0 = if lab r a ≠ lab r b then 1 else 0 := fun r a b => by
        rw [sel_ne]
        exact if_congr (not_congr (ofNat_inj (hl r a) (hl r b))) rfl rfl
      exact h3 (i 0) _ _
    · rfl

/-- The even states' references the first block stores. -/
theorem pay129 : Gen.k0_pay129 (F := Ideal) = lvec (fun _ => rows0.1) := by
  funext i
  have h2 : ∀ j : ℕ, ell (rows0.1 j) = if j = 0 then 0 else ⊥ := fun j => by
    by_cases h : j = 0
    · rw [if_pos h, h]; exact ell_one
    · rw [if_neg h]; exact (congrArg ell (if_neg h)).trans ell_zero
  refine Eq.trans ?_ (h2 (i 1).val).symm
  pointwise [Gen.k0_pay129]
  have hj : (i 1).val < 65 := (i 1).isLt
  rw [neg_value, sel_eq]
  exact if_congr (ofNat_inj (b := 0) (by omega) (by omega)) rfl rfl

/-- The odd states' references the first block stores. -/
theorem pay130 : Gen.k0_pay130 (F := Ideal) = lvec (fun _ => rows0.2) := by
  funext i
  refine Eq.trans ?_ ell_zero.symm
  pointwise [Gen.k0_pay130]
  exact neg_value

/-- The accumulated logarithm begins at zero. -/
theorem pay131 : Gen.k0_pay131 (F := Ideal) = fun _ => ell 1 := by
  funext i
  refine Eq.trans ?_ ell_one.symm
  pointwise [Gen.k0_pay131]

/-- A product with one-hot rows reads the labels' entries. -/
theorem dot_value (b : Fin 16) (hl : ∀ b j, lab b j < 512) (x : Vec Ideal S256x1x512 .f32) (o : Vec Ideal S1x512x64 .f32)
    (hx : ∀ t c, x (ix3 t 0 c) = ell (e t.val b c.val)) (ho : ∀ c j, o (ix3 0 c j) = up (if c.val = lab b j.val then 1 else 0))
    (i : S256x1x64.Idx) : Gen.k0_pay132 x o i = ell (e (i 0).val b (lab b (i 2).val)) := by
  have h : ∀ (t : Fin 256) (j : Fin 64), ∑ c : Fin 512, x (ix3 t 0 c) * o (ix3 0 c j) = ell (e t.val b (lab b j.val)) := fun t j => by
    rw [Finset.sum_eq_single (⟨lab b j.val, hl b j.val⟩ : Fin 512)]
    · rw [hx, ho, if_pos rfl, up_one, mul_one]
    · intro c _ hc
      rw [ho, if_neg (fun h => hc (Fin.ext h)), up_zero, mul_zero]
    · exact fun h => absurd (Finset.mem_univ _) h
  refine Eq.trans ?_ (h (i 0) (i 2))
  pointwise [Gen.k0_pay132]

/-- The result of the last block: minus the sum of the sequences' log-likelihoods. -/
theorem pay1 (a b m : Fin 16 → ℝ≥0) (x y z : Vec Ideal S16x1 .f32) (hx : x = fun i => ell (a (i 0))) (hy : y = fun i => ell (b (i 0)))
    (hz : z = fun i => ell (m (i 0))) : Gen.k0_pay1 x y z = fun _ => 0 - ∑ r : Fin 16, ell ((a r + b r) * m r) := by
  funext i
  subst hx hy hz
  pointwise [Gen.k0_pay1]
  refine congrArg (0 - ·) (Finset.sum_congr rfl fun r _ => ?_)
  rw [Fintype.sum_unique, ell_mul, ← lse_two]

/-- The one-hot rows of a sequence, as the kernel makes them. -/
theorem hot_value (hl : ∀ b j, lab b j < 512) (c : ℕ) (hc : c < 512) (b : Fin 16) (j : ℕ) :
    Scalar.select (IntOp.cmpi CmpIPredicate.eq (BitVec.ofNat 32 c) (BitVec.ofNat 32 (lab b j))) (1 : Ideal .f32) 0
      = up (if c = lab b j then 1 else 0) := by
  rw [sel_eq, if_congr (ofNat_inj hc (hl b j)) rfl rfl]
  split
  · exact up_one.symm
  · exact up_zero.symm

/-- The first sequence's one-hot table. -/
theorem pay3 (hl : ∀ b j, lab b j < 512) : Gen.k0_pay3 (labW lab) = hot lab 0 := by
  funext i
  refine Eq.trans ?_ (hot_value lab hl (i 1).val (i 1).isLt 0 (i 2).val)
  pointwise [Gen.k0_pay3, Gen.k0_pay2]
  rfl

end Cert.KernelIdeal.Window
end
end
-- ==== Proof.KI.Value.lean ====
/- The run of the program with its result named: what the last grid point stores. -/
module

public import proofs.«01_k».proof.Proof.KI.Frame
public import Idealize.ShloMosaic.Lib.Pipeline.Value

@[expose] public section

noncomputable section

namespace Cert.KernelIdeal.Value

open Cert.KernelIdeal Cert.KernelIdeal.Gen Cert.KernelIdeal.Body Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 2's array: the run's contents for that window after the body (`Gen.outsAt0`: its component 0), read through the window's block. -/
theorem flushed2 (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- … so at a point where case A runs, what its write-back would write is that case's NAMED TERM for the window (`Gen.out0_A_2`: the pieces
    its run found, read back) at the point's memrefs and input blocks, and for an output the case reads back what the point before left (`Gen.outsAt0` at `t - 1`) — by the frame's rewriting lemma for the case. -/
theorem flushed2_A (c : Dev nD) (t : Fin cfg0.N) (h0 : t.val % 4 = 0) (h1 : ¬t.val % 4 = 3) :
    (dats m 0 c).flushed 2 t = (cfg0.win 2).cut (grid0.coords t) (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t)) := by
  simp only [flushed2, outsAt0_A m c t h0 h1]

/-- … so at a point where case B runs, what its write-back would write is that case's NAMED TERM for the window (`Gen.out0_B_2`: the pieces
    its run found, read back) at the point's memrefs and input blocks, and for an output the case reads back what the point before left (`Gen.outsAt0` at `t - 1`) — by the frame's rewriting lemma for the case. -/
theorem flushed2_B (c : Dev nD) (t : Fin cfg0.N) (h0 : ¬t.val % 4 = 0) (h1 : ¬t.val % 4 = 3) :
    (dats m 0 c).flushed 2 t = (cfg0.win 2).cut (grid0.coords t) (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed2, outsAt0_B m c t h0 h1]

/-- … so at a point where case C runs, what its write-back would write is that case's NAMED TERM for the window (`Gen.out0_C_2`: the pieces
    its run found, read back) at the point's memrefs and input blocks, and for an output the case reads back what the point before left (`Gen.outsAt0` at `t - 1`) — by the frame's rewriting lemma for the case. -/
theorem flushed2_C (c : Dev nD) (t : Fin cfg0.N) (h0 : ¬t.val % 4 = 0) (h1 : t.val % 4 = 3) :
    (dats m 0 c).flushed 2 t = (cfg0.win 2).cut (grid0.coords t) (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed2, outsAt0_C m c t h0 h1]

-- no `blocks2`: window 2's index map revisits a block index, or its points could not be enumerated here;
-- the final array is still the frame's `arrAt`, to read with Lib/Pipeline/Value.lean's lemmas by hand

/-- An index that no flushing point's block covers keeps output window 2's array contents at region entry. -/
theorem entry2 (c : Dev nD) (i : S1x1.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0) = (dats m 0 c).arrAt 2 cfg0.N :=
  (h c).1 2

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post2 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S16x512x64 .f32) : Vec F S16x512x64 .f32 :=
  if h0 : n % 4 = 0 then
    if h1 : n % 4 = 3 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))
  else
    if h1 : n % 4 = 3 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2

/-- WHAT CARRIED SCRATCH 0 HOLDS after point `t`: the fold of its run up to `t`, from the reset at the run's first point
    `4·(t / 4)` (Lib/Pipeline/Value.lean `Pipeline.eq_accAt_of_mod`, by the frame's `outsAt0_κ`; without enumerating the points). -/
theorem soutsAt0_0_eq (c : Dev nD) (t : Fin cfg0.N) :
    (outsAt0 m c t.val t.isLt).2.1 = Pipeline.accAt (fun n h => scAt0_0 m c n h (VS0_0.read (Elt F) VS0_0.junk)) (scAt0_0 m c) (4 * (t.val / 4)) (t.val % 4)
      (by have h1 := t.isLt; have h2 := Nat.div_add_mod t.val 4; omega) :=
  Pipeline.eq_accAt_of_mod (fun n h => (outsAt0 m c n h).2.1) 4 (fun n h => scAt0_0 m c n h (VS0_0.read (Elt F) VS0_0.junk)) (scAt0_0 m c)
    (fun n h hn => by
      have hN := lt_of_lt_of_eq h (show cfg0.N = 4 from N_0)
      by_cases h0 : n % 4 = 0 <;> by_cases h1 : n % 4 = 3
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 4 from N_0)
      by_cases h0 : (n + 1) % 4 = 0 <;> by_cases h1 : (n + 1) % 4 = 3
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 4 from N_0)
  have hd : n / 4 = 0 := Nat.div_eq_of_lt hN
  have hm : n % 4 = n := Nat.mod_eq_of_lt hN
  simpa only [hd, hm, Nat.mul_zero] using e

/-! ## Carried scratch 6: what each point leaves in it, and its fold -/

/-- What point `n` leaves in carried scratch 6, over what the point before left in it (`acc`): the case the conditions'
    closed forms select at `n`, the frame's own term for it (`Gen.sout0_κ_6`; anything else the case takes of the point
    before, another carried scratch or an output it reads back, stays `Gen.outsAt0`'s at `n - 1`); a case at the first point
    stores the scratch whole without reading what it held, and `acc` does not enter there (nor where no point meets the
    conditions: `acc`, never read). -/
def scAt0_6 (c : Dev nD) (n : ℕ) (hb : n < cfg0.N) (acc : Vec F S16x65 .f32) : Vec F S16x65 .f32 :=
  if h0 : n % 4 = 0 then
    if h1 : n % 4 = 3 then
      acc
    else
      sout0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))
  else
    if h1 : n % 4 = 3 then
      sout0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2
    else
      sout0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2

/-- WHAT CARRIED SCRATCH 6 HOLDS after point `t`: the fold of its run up to `t`, from the reset at the run's first point
    `4·(t / 4)` (Lib/Pipeline/Value.lean `Pipeline.eq_accAt_of_mod`, by the frame's `outsAt0_κ`; without enumerating the points). -/
theorem soutsAt0_6_eq (c : Dev nD) (t : Fin cfg0.N) :
    (outsAt0 m c t.val t.isLt).2.2.1 = Pipeline.accAt (fun n h => scAt0_6 m c n h (VS0_6.read (Elt F) VS0_6.junk)) (scAt0_6 m c) (4 * (t.val / 4)) (t.val % 4)
      (by have h1 := t.isLt; have h2 := Nat.div_add_mod t.val 4; omega) :=
  Pipeline.eq_accAt_of_mod (fun n h => (outsAt0 m c n h).2.2.1) 4 (fun n h => scAt0_6 m c n h (VS0_6.read (Elt F) VS0_6.junk)) (scAt0_6 m c)
    (fun n h hn => by
      have hN := lt_of_lt_of_eq h (show cfg0.N = 4 from N_0)
      by_cases h0 : n % 4 = 0 <;> by_cases h1 : n % 4 = 3
      all_goals first | (exfalso; omega) | (rw [outsAt0_A m c ⟨n, h⟩ h0 h1]; dsimp only; unfold scAt0_6; rw [dif_pos h0, dif_neg h1] <;> try rfl) | (rw [outsAt0_B m c ⟨n, h⟩ h0 h1]; dsimp only; unfold scAt0_6; rw [dif_neg h0, dif_neg h1] <;> try rfl) | (rw [outsAt0_C m c ⟨n, h⟩ h0 h1]; dsimp only; unfold scAt0_6; rw [dif_neg h0, dif_pos h1] <;> try rfl))
    (fun n h hn => by
      have hN := lt_of_lt_of_eq h (show cfg0.N = 4 from N_0)
      by_cases h0 : (n + 1) % 4 = 0 <;> by_cases h1 : (n + 1) % 4 = 3
      all_goals first | (exfalso; omega) | (rw [outsAt0_A m c ⟨n + 1, h⟩ h0 h1]; dsimp only; unfold scAt0_6; rw [dif_pos h0, dif_neg h1] <;> try rfl) | (rw [outsAt0_B m c ⟨n + 1, h⟩ h0 h1]; dsimp only; unfold scAt0_6; rw [dif_neg h0, dif_neg h1] <;> try rfl) | (rw [outsAt0_C m c ⟨n + 1, h⟩ h0 h1]; dsimp only; unfold scAt0_6; rw [dif_neg h0, dif_pos h1] <;> try rfl))
    (by decide) t.val t.isLt _

/-- One run spans the grid (the only reset is at point 0): after point `n` the scratch is the fold from 0 to `n`. -/
theorem soutsAt0_6_sweep (c : Dev nD) (n : ℕ) (hn : n < cfg0.N) :
    (outsAt0 m c n hn).2.2.1 = Pipeline.accAt (fun n h => scAt0_6 m c n h (VS0_6.read (Elt F) VS0_6.junk)) (scAt0_6 m c) 0 n (by omega) := by
  have e := soutsAt0_6_eq m c ⟨n, hn⟩
  have hN := lt_of_lt_of_eq hn (show cfg0.N = 4 from N_0)
  have hd : n / 4 = 0 := Nat.div_eq_of_lt hN
  have hm : n % 4 = n := Nat.mod_eq_of_lt hN
  simpa only [hd, hm, Nat.mul_zero] using e

/-! ## Carried scratch 7: what each point leaves in it, and its fold -/

/-- What point `n` leaves in carried scratch 7, over what the point before left in it (`acc`): the case the conditions'
    closed forms select at `n`, the frame's own term for it (`Gen.sout0_κ_7`; anything else the case takes of the point
    before, another carried scratch or an output it reads back, stays `Gen.outsAt0`'s at `n - 1`); a case at the first point
    stores the scratch whole without reading what it held, and `acc` does not enter there (nor where no point meets the
    conditions: `acc`, never read). -/
def scAt0_7 (c : Dev nD) (n : ℕ) (hb : n < cfg0.N) (acc : Vec F S16x65 .f32) : Vec F S16x65 .f32 :=
  if h0 : n % 4 = 0 then
    if h1 : n % 4 = 3 then
      acc
    else
      sout0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))
  else
    if h1 : n % 4 = 3 then
      sout0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2
    else
      sout0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2

/-- WHAT CARRIED SCRATCH 7 HOLDS after point `t`: the fold of its run up to `t`, from the reset at the run's first point
    `4·(t / 4)` (Lib/Pipeline/Value.lean `Pipeline.eq_accAt_of_mod`, by the frame's `outsAt0_κ`; without enumerating the points). -/
theorem soutsAt0_7_eq (c : Dev nD) (t : Fin cfg0.N) :
    (outsAt0 m c t.val t.isLt).2.2.2.1 = Pipeline.accAt (fun n h => scAt0_7 m c n h (VS0_7.read (Elt F) VS0_7.junk)) (scAt0_7 m c) (4 * (t.val / 4)) (t.val % 4)
      (by have h1 := t.isLt; have h2 := Nat.div_add_mod t.val 4; omega) :=
  Pipeline.eq_accAt_of_mod (fun n h => (outsAt0 m c n h).2.2.2.1) 4 (fun n h => scAt0_7 m c n h (VS0_7.read (Elt F) VS0_7.junk)) (scAt0_7 m c)
    (fun n h hn => by
      have hN := lt_of_lt_of_eq h (show cfg0.N = 4 from N_0)
      by_cases h0 : n % 4 = 0 <;> by_cases h1 : n % 4 = 3
      all_goals first | (exfalso; omega) | (rw [outsAt0_A m c ⟨n, h⟩ h0 h1]; dsimp only; unfold scAt0_7; rw [dif_pos h0, dif_neg h1] <;> try rfl) | (rw [outsAt0_B m c ⟨n, h⟩ h0 h1]; dsimp only; unfold scAt0_7; rw [dif_neg h0, dif_neg h1] <;> try rfl) | (rw [outsAt0_C m c ⟨n, h⟩ h0 h1]; dsimp only; unfold scAt0_7; rw [dif_neg h0, dif_pos h1] <;> try rfl))
    (fun n h hn => by
      have hN := lt_of_lt_of_eq h (show cfg0.N = 4 from N_0)
      by_cases h0 : (n + 1) % 4 = 0 <;> by_cases h1 : (n + 1) % 4 = 3
      all_goals first | (exfalso; omega) | (rw [outsAt0_A m c ⟨n + 1, h⟩ h0 h1]; dsimp only; unfold scAt0_7; rw [dif_pos h0, dif_neg h1] <;> try rfl) | (rw [outsAt0_B m c ⟨n + 1, h⟩ h0 h1]; dsimp only; unfold scAt0_7; rw [dif_neg h0, dif_neg h1] <;> try rfl) | (rw [outsAt0_C m c ⟨n + 1, h⟩ h0 h1]; dsimp only; unfold scAt0_7; rw [dif_neg h0, dif_pos h1] <;> try rfl))
    (by decide) t.val t.isLt _

/-- One run spans the grid (the only reset is at point 0): after point `n` the scratch is the fold from 0 to `n`. -/
theorem soutsAt0_7_sweep (c : Dev nD) (n : ℕ) (hn : n < cfg0.N) :
    (outsAt0 m c n hn).2.2.2.1 = Pipeline.accAt (fun n h => scAt0_7 m c n h (VS0_7.read (Elt F) VS0_7.junk)) (scAt0_7 m c) 0 n (by omega) := by
  have e := soutsAt0_7_eq m c ⟨n, hn⟩
  have hN := lt_of_lt_of_eq hn (show cfg0.N = 4 from N_0)
  have hd : n / 4 = 0 := Nat.div_eq_of_lt hN
  have hm : n % 4 = n := Nat.mod_eq_of_lt hN
  simpa only [hd, hm, Nat.mul_zero] using e

/-! ## Carried scratch 8: what each point leaves in it, and its fold -/

/-- What point `n` leaves in carried scratch 8, over what the point before left in it (`acc`): the case the conditions'
    closed forms select at `n`, the frame's own term for it (`Gen.sout0_κ_8`; anything else the case takes of the point
    before, another carried scratch or an output it reads back, stays `Gen.outsAt0`'s at `n - 1`); a case at the first point
    stores the scratch whole without reading what it held, and `acc` does not enter there (nor where no point meets the
    conditions: `acc`, never read). -/
def scAt0_8 (c : Dev nD) (n : ℕ) (hb : n < cfg0.N) (acc : Vec F S16x65 .f32) : Vec F S16x65 .f32 :=
  if h0 : n % 4 = 0 then
    if h1 : n % 4 = 3 then
      acc
    else
      sout0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))
  else
    if h1 : n % 4 = 3 then
      sout0_C_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2
    else
      sout0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2

/-- WHAT CARRIED SCRATCH 8 HOLDS after point `t`: the fold of its run up to `t`, from the reset at the run's first point
    `4·(t / 4)` (Lib/Pipeline/Value.lean `Pipeline.eq_accAt_of_mod`, by the frame's `outsAt0_κ`; without enumerating the points). -/
theorem soutsAt0_8_eq (c : Dev nD) (t : Fin cfg0.N) :
    (outsAt0 m c t.val t.isLt).2.2.2.2.1 = Pipeline.accAt (fun n h => scAt0_8 m c n h (VS0_8.read (Elt F) VS0_8.junk)) (scAt0_8 m c) (4 * (t.val / 4)) (t.val % 4)
      (by have h1 := t.isLt; have h2 := Nat.div_add_mod t.val 4; omega) :=
  Pipeline.eq_accAt_of_mod (fun n h => (outsAt0 m c n h).2.2.2.2.1) 4 (fun n h => scAt0_8 m c n h (VS0_8.read (Elt F) VS0_8.junk)) (scAt0_8 m c)
    (fun n h hn => by
      have hN := lt_of_lt_of_eq h (show cfg0.N = 4 from N_0)
      by_cases h0 : n % 4 = 0 <;> by_cases h1 : n % 4 = 3
      all_goals first | (exfalso; omega) | (rw [outsAt0_A m c ⟨n, h⟩ h0 h1]; dsimp only; unfold scAt0_8; rw [dif_pos h0, dif_neg h1] <;> try rfl) | (rw [outsAt0_B m c ⟨n, h⟩ h0 h1]; dsimp only; unfold scAt0_8; rw [dif_neg h0, dif_neg h1] <;> try rfl) | (rw [outsAt0_C m c ⟨n, h⟩ h0 h1]; dsimp only; unfold scAt0_8; rw [dif_neg h0, dif_pos h1] <;> try rfl))
    (fun n h hn => by
      have hN := lt_of_lt_of_eq h (show cfg0.N = 4 from N_0)
      by_cases h0 : (n + 1) % 4 = 0 <;> by_cases h1 : (n + 1) % 4 = 3
      all_goals first | (exfalso; omega) | (rw [outsAt0_A m c ⟨n + 1, h⟩ h0 h1]; dsimp only; unfold scAt0_8; rw [dif_pos h0, dif_neg h1] <;> try rfl) | (rw [outsAt0_B m c ⟨n + 1, h⟩ h0 h1]; dsimp only; unfold scAt0_8; rw [dif_neg h0, dif_neg h1] <;> try rfl) | (rw [outsAt0_C m c ⟨n + 1, h⟩ h0 h1]; dsimp only; unfold scAt0_8; rw [dif_neg h0, dif_pos h1] <;> try rfl))
    (by decide) t.val t.isLt _

/-- One run spans the grid (the only reset is at point 0): after point `n` the scratch is the fold from 0 to `n`. -/
theorem soutsAt0_8_sweep (c : Dev nD) (n : ℕ) (hn : n < cfg0.N) :
    (outsAt0 m c n hn).2.2.2.2.1 = Pipeline.accAt (fun n h => scAt0_8 m c n h (VS0_8.read (Elt F) VS0_8.junk)) (scAt0_8 m c) 0 n (by omega) := by
  have e := soutsAt0_8_eq m c ⟨n, hn⟩
  have hN := lt_of_lt_of_eq hn (show cfg0.N = 4 from N_0)
  have hd : n / 4 = 0 := Nat.div_eq_of_lt hN
  have hm : n % 4 = n := Nat.mod_eq_of_lt hN
  simpa only [hd, hm, Nat.mul_zero] using e

/-! ## Carried scratch 9: what each point leaves in it, and its fold -/

/-- What point `n` leaves in carried scratch 9, over what the point before left in it (`acc`): the case the conditions'
    closed forms select at `n`, the frame's own term for it (`Gen.sout0_κ_9`; anything else the case takes of the point
    before, another carried scratch or an output it reads back, stays `Gen.outsAt0`'s at `n - 1`); a case at the first point
    stores the scratch whole without reading what it held, and `acc` does not enter there (nor where no point meets the
    conditions: `acc`, never read). -/
def scAt0_9 (c : Dev nD) (n : ℕ) (hb : n < cfg0.N) (acc : Vec F S16x1 .f32) : Vec F S16x1 .f32 :=
  if h0 : n % 4 = 0 then
    if h1 : n % 4 = 3 then
      acc
    else
      sout0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))
  else
    if h1 : n % 4 = 3 then
      sout0_C_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc
    else
      sout0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc

/-- WHAT CARRIED SCRATCH 9 HOLDS after point `t`: the fold of its run up to `t`, from the reset at the run's first point
    `4·(t / 4)` (Lib/Pipeline/Value.lean `Pipeline.eq_accAt_of_mod`, by the frame's `outsAt0_κ`; without enumerating the points). -/
theorem soutsAt0_9_eq (c : Dev nD) (t : Fin cfg0.N) :
    (outsAt0 m c t.val t.isLt).2.2.2.2.2 = Pipeline.accAt (fun n h => scAt0_9 m c n h (VS0_9.read (Elt F) VS0_9.junk)) (scAt0_9 m c) (4 * (t.val / 4)) (t.val % 4)
      (by have h1 := t.isLt; have h2 := Nat.div_add_mod t.val 4; omega) :=
  Pipeline.eq_accAt_of_mod (fun n h => (outsAt0 m c n h).2.2.2.2.2) 4 (fun n h => scAt0_9 m c n h (VS0_9.read (Elt F) VS0_9.junk)) (scAt0_9 m c)
    (fun n h hn => by
      have hN := lt_of_lt_of_eq h (show cfg0.N = 4 from N_0)
      by_cases h0 : n % 4 = 0 <;> by_cases h1 : n % 4 = 3
      all_goals first | (exfalso; omega) | (rw [outsAt0_A m c ⟨n, h⟩ h0 h1]; dsimp only; unfold scAt0_9; rw [dif_pos h0, dif_neg h1] <;> try rfl) | (rw [outsAt0_B m c ⟨n, h⟩ h0 h1]; dsimp only; unfold scAt0_9; rw [dif_neg h0, dif_neg h1] <;> try rfl) | (rw [outsAt0_C m c ⟨n, h⟩ h0 h1]; dsimp only; unfold scAt0_9; rw [dif_neg h0, dif_pos h1] <;> try rfl))
    (fun n h hn => by
      have hN := lt_of_lt_of_eq h (show cfg0.N = 4 from N_0)
      by_cases h0 : (n + 1) % 4 = 0 <;> by_cases h1 : (n + 1) % 4 = 3
      all_goals first | (exfalso; omega) | (rw [outsAt0_A m c ⟨n + 1, h⟩ h0 h1]; dsimp only; unfold scAt0_9; rw [dif_pos h0, dif_neg h1] <;> try rfl) | (rw [outsAt0_B m c ⟨n + 1, h⟩ h0 h1]; dsimp only; unfold scAt0_9; rw [dif_neg h0, dif_neg h1] <;> try rfl) | (rw [outsAt0_C m c ⟨n + 1, h⟩ h0 h1]; dsimp only; unfold scAt0_9; rw [dif_neg h0, dif_pos h1] <;> try rfl))
    (by decide) t.val t.isLt _

/-- One run spans the grid (the only reset is at point 0): after point `n` the scratch is the fold from 0 to `n`. -/
theorem soutsAt0_9_sweep (c : Dev nD) (n : ℕ) (hn : n < cfg0.N) :
    (outsAt0 m c n hn).2.2.2.2.2 = Pipeline.accAt (fun n h => scAt0_9 m c n h (VS0_9.read (Elt F) VS0_9.junk)) (scAt0_9 m c) 0 n (by omega) := by
  have e := soutsAt0_9_eq m c ⟨n, hn⟩
  have hN := lt_of_lt_of_eq hn (show cfg0.N = 4 from N_0)
  have hd : n / 4 = 0 := Nat.div_eq_of_lt hN
  have hm : n % 4 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x1 .f32 × Vec F S16x512x64 .f32 × Vec F S16x65 .f32 × Vec F S16x65 .f32 × Vec F S16x65 .f32 × Vec F S16x1 .f32 :=
  ((VO0_2.read (Elt F) VO0_2.junk, VS0_0.read (Elt F) VS0_0.junk, VS0_6.read (Elt F) VS0_6.junk, VS0_7.read (Elt F) VS0_7.junk, VS0_8.read (Elt F) VS0_8.junk, VS0_9.read (Elt F) VS0_9.junk) : Vec F S1x1 .f32 × Vec F S16x512x64 .f32 × Vec F S16x65 .f32 × Vec F S16x65 .f32 × Vec F S16x65 .f32 × Vec F S16x1 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x1 .f32 × Vec F S16x512x64 .f32 × Vec F S16x65 .f32 × Vec F S16x65 .f32 × Vec F S16x65 .f32 × Vec F S16x1 .f32) : Vec F S1x1 .f32 × Vec F S16x512x64 .f32 × Vec F S16x65 .f32 × Vec F S16x65 .f32 × Vec F S16x65 .f32 × Vec F S16x1 .f32 :=
  if h0 : n % 4 = 0 then
    if h1 : n % 4 = 3 then
      False.elim (by have hN : n < 4 := lt_of_lt_of_eq hb (show cfg0.N = 4 from N_0); omega)
    else
      (out0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)), sout0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)), sout0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)), sout0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)), sout0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)))
  else
    if h1 : n % 4 = 3 then
      (out0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc.2.1 acc.2.2.1 acc.2.2.2.1 acc.2.2.2.2.1 acc.2.2.2.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc.2.1 acc.2.2.1 acc.2.2.2.1 acc.2.2.2.2.1 acc.2.2.2.2.2, sout0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc.2.1 acc.2.2.1 acc.2.2.2.1 acc.2.2.2.2.1 acc.2.2.2.2.2, sout0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc.2.1 acc.2.2.1 acc.2.2.2.1 acc.2.2.2.2.1 acc.2.2.2.2.2, sout0_C_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc.2.1 acc.2.2.1 acc.2.2.2.1 acc.2.2.2.2.1 acc.2.2.2.2.2, sout0_C_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc.2.1 acc.2.2.1 acc.2.2.2.1 acc.2.2.2.2.1 acc.2.2.2.2.2)
    else
      (out0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc.2.1 acc.2.2.1 acc.2.2.2.1 acc.2.2.2.2.1 acc.2.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc.2.1 acc.2.2.1 acc.2.2.2.1 acc.2.2.2.2.1 acc.2.2.2.2.2, sout0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc.2.1 acc.2.2.1 acc.2.2.2.1 acc.2.2.2.2.1 acc.2.2.2.2.2, sout0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc.2.1 acc.2.2.1 acc.2.2.2.1 acc.2.2.2.2.1 acc.2.2.2.2.2, sout0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc.2.1 acc.2.2.1 acc.2.2.2.1 acc.2.2.2.2.1 acc.2.2.2.2.2, sout0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc.2.1 acc.2.2.1 acc.2.2.2.1 acc.2.2.2.2.1 acc.2.2.2.2.2)

/-- `stAt0` at a point of case A: that case's contents. -/
theorem stAt0_A (c : Dev nD) (t : Fin cfg0.N) (acc : Vec F S1x1 .f32 × Vec F S16x512x64 .f32 × Vec F S16x65 .f32 × Vec F S16x65 .f32 × Vec F S16x65 .f32 × Vec F S16x1 .f32) (h0 : t.val % 4 = 0) (h1 : ¬t.val % 4 = 3) :
    stAt0 m c t.val t.isLt acc = (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_6 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_7 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_8 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t), sout0_A_9 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t)) :=
  (dif_pos h0).trans ((dif_neg h1).trans rfl)

/-- `stAt0` at a point of case B: that case's contents, over `acc`. -/
theorem stAt0_B (c : Dev nD) (t : Fin cfg0.N) (acc : Vec F S1x1 .f32 × Vec F S16x512x64 .f32 × Vec F S16x65 .f32 × Vec F S16x65 .f32 × Vec F S16x65 .f32 × Vec F S16x1 .f32) (h0 : ¬t.val % 4 = 0) (h1 : ¬t.val % 4 = 3) :
    stAt0 m c t.val t.isLt acc = (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) acc.2.1 acc.2.2.1 acc.2.2.2.1 acc.2.2.2.2.1 acc.2.2.2.2.2, sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) acc.2.1 acc.2.2.1 acc.2.2.2.1 acc.2.2.2.2.1 acc.2.2.2.2.2, sout0_B_6 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) acc.2.1 acc.2.2.1 acc.2.2.2.1 acc.2.2.2.2.1 acc.2.2.2.2.2, sout0_B_7 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) acc.2.1 acc.2.2.1 acc.2.2.2.1 acc.2.2.2.2.1 acc.2.2.2.2.2, sout0_B_8 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) acc.2.1 acc.2.2.1 acc.2.2.2.1 acc.2.2.2.2.1 acc.2.2.2.2.2, sout0_B_9 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) acc.2.1 acc.2.2.1 acc.2.2.2.1 acc.2.2.2.2.1 acc.2.2.2.2.2) :=
  (dif_neg h0).trans ((dif_neg h1).trans rfl)

/-- `stAt0` at a point of case C: that case's contents, over `acc`. -/
theorem stAt0_C (c : Dev nD) (t : Fin cfg0.N) (acc : Vec F S1x1 .f32 × Vec F S16x512x64 .f32 × Vec F S16x65 .f32 × Vec F S16x65 .f32 × Vec F S16x65 .f32 × Vec F S16x1 .f32) (h0 : ¬t.val % 4 = 0) (h1 : t.val % 4 = 3) :
    stAt0 m c t.val t.isLt acc = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) acc.2.1 acc.2.2.1 acc.2.2.2.1 acc.2.2.2.2.1 acc.2.2.2.2.2, sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) acc.2.1 acc.2.2.1 acc.2.2.2.1 acc.2.2.2.2.1 acc.2.2.2.2.2, sout0_C_6 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) acc.2.1 acc.2.2.1 acc.2.2.2.1 acc.2.2.2.2.1 acc.2.2.2.2.2, sout0_C_7 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) acc.2.1 acc.2.2.1 acc.2.2.2.1 acc.2.2.2.2.1 acc.2.2.2.2.2, sout0_C_8 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) acc.2.1 acc.2.2.1 acc.2.2.2.1 acc.2.2.2.2.1 acc.2.2.2.2.2, sout0_C_9 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) acc.2.1 acc.2.2.1 acc.2.2.2.1 acc.2.2.2.2.1 acc.2.2.2.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 4 from N_0)
  have e := Pipeline.eq_accAt_of_mod (fun n h => outsAt0 m c n h) 4 (fun n h => stAt0 m c n h junk0) (stAt0 m c)
    (fun n h _ => by
      have hN := lt_of_lt_of_eq h (show cfg0.N = 4 from N_0)
      obtain rfl : n = 0 := by omega
      exact outsAt0_zero m c h)
    (fun n h _ => outsAt0_succ m c n h)
    (by decide) n hn (by have := Nat.div_add_mod n 4; omega)
  have hd : n / 4 = 0 := Nat.div_eq_of_lt hN
  have hm : n % 4 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 2 -/

/-- The block of the array that holds index `i`, numbered in the order the points write the blocks back (one every 4 points),
    `i`'s place in it, and the point that writes it back (the last of its 4). -/
abbrev run2Of (i : S1x1.Idx) : ℕ := 1 * ((i 0).val / 1 - 0) + 1 * ((i 1).val / 1 - 0)
set_option backward.proofsInPublic true in
/-- The place within a block of an index of the result. -/
abbrev loc2Of (i : S1x1.Idx) : S1x1.Idx := fun a => match a with
  | ⟨0, _⟩ => ⟨(i 0).val % 1, Nat.mod_lt _ (by decide)⟩
  | ⟨1, _⟩ => ⟨(i 1).val % 1, Nat.mod_lt _ (by decide)⟩
/-- The last point of the run an index of the result belongs to. -/
abbrev pt2Of (i : S1x1.Idx) : ℕ := 4 * run2Of i + 3

/-- WHAT THE ARRAY ENDS HOLDING at index `i` inside the box the flushing blocks fill: output 2's component of the carried
    state's fold at the point that writes `i`'s block back, at `i`'s place in the block. `G2` states the array's contents
    only inside the box. -/
def G2 (c : Dev nD) : Buf (Elt F) ((c : Thread nD τ).loc main_v0) := fun i =>
  if h : pt2Of i < cfg0.N then
    (Pipeline.accAt (fun n h => stAt0 m c n h junk0) (stAt0 m c) 0 (pt2Of i) (by omega)).1 (loc2Of i)
  else V m c (Pipeline.arrRef spec0 2) i

/-- The printed index map, decided over the grid: output window 2's block indices stay in the box, and the block number
    read off them is the point's (`t / 4`). -/
theorem idx_facts2 : ∀ t : Fin cfg0.N, 0 ≤ win0_2.index t (0 : Fin 2) ∧ win0_2.index t (0 : Fin 2) ≤ 0
    ∧ 0 ≤ win0_2.index t (1 : Fin 2) ∧ win0_2.index t (1 : Fin 2) ≤ 0
    ∧ 1 * (win0_2.index t (0 : Fin 2) - 0) + 1 * (win0_2.index t (1 : Fin 2) - 0) = t.val / 4 :=
  (by decide +kernel : ∀ t : Fin grid0.N, _)

/-- Every block of the box is SOME flushing point's: `onto2Pt`, the point that writes back the block at place `q` of the box (the last point of its run). -/
abbrev onto2Pt (q0 : Fin 1) (q1 : Fin 1) : Fin grid0.N :=
  ⟨4 * (1 * q0.val + 1 * q1.val) + 3, lt_of_lt_of_eq (by omega) N_0.symm⟩
/-- Every block of the result is written back at some point. -/
theorem idx_onto2 : ∀ (q0 : Fin 1) (q1 : Fin 1), ∃ t : Fin cfg0.N, (cfg0.win 2).flush t = true ∧ win0_2.index t = ![q0.val + 0, q1.val + 0] :=
  fun q0 q1 => ⟨onto2Pt q0 q1, (by decide +kernel : ∀ (q0 : Fin 1) (q1 : Fin 1), win0_2.flush (onto2Pt q0 q1) = true ∧ win0_2.index (onto2Pt q0 q1) = ![q0.val + 0, q1.val + 0]) q0 q1⟩

/-- WHAT A FLUSHING POINT `t` WRITES BACK is block `t` of `G2`: output 2's component of the fold up to `t`. -/
theorem flushed2_eq (c : Dev nD) (t : Fin cfg0.N) (hf : (cfg0.win 2).flush t = true) :
    (dats m 0 c).flushed 2 t = ((cfg0.win 2).blk t).view.read (Elt F) (G2 m c) := by
  show (cfg0.win 2).cut (grid0.coords t) ((dats m 0 c).after 2 t) = _
  rw [after0_2, outsAt0_sweep]
  have hm : t.val % 4 = 3 := (flush0_2 t).mp hf
  obtain ⟨e0, e1, e2⟩ := idx_facts2 t
  funext y
  have hy0 : (y 0).val < 1 := (y 0).isLt
  have hy1 : (y 1).val < 1 := (y 1).isLt
  have hb0 : (((cfg0.win 2).blk t).view.emb y 0).val = win0_2.index t (0 : Fin 2) * 1 + 1 * (y 0).val := rfl
  have hb1 : (((cfg0.win 2).blk t).view.emb y 1).val = win0_2.index t (1 : Fin 2) * 1 + 1 * (y 1).val := rfl
  have hr : run2Of (((cfg0.win 2).blk t).view.emb y) = t.val / 4 := by
    show 1 * ((((cfg0.win 2).blk t).view.emb y 0).val / 1 - 0) + 1 * ((((cfg0.win 2).blk t).view.emb y 1).val / 1 - 0) = _
    rw [hb0, hb1]
    rw [show (win0_2.index t (0 : Fin 2) * 1 + 1 * (y 0).val) / 1 = win0_2.index t (0 : Fin 2) from by omega]; rw [show (win0_2.index t (1 : Fin 2) * 1 + 1 * (y 1).val) / 1 = win0_2.index t (1 : Fin 2) from by omega]
    omega
  have hl : loc2Of (((cfg0.win 2).blk t).view.emb y) = (cfg0.win 2).xinj (grid0.coords t) y := by
    funext a; apply Fin.ext
    match a with
    | ⟨0, _⟩ => show (((cfg0.win 2).blk t).view.emb y 0).val % 1 = (y 0).val; rw [hb0]; omega
    | ⟨1, _⟩ => show (((cfg0.win 2).blk t).view.emb y 1).val % 1 = (y 1).val; rw [hb1]; omega
  have hp : pt2Of (((cfg0.win 2).blk t).view.emb y) = t.val := by
    show 4 * run2Of (((cfg0.win 2).blk t).view.emb y) + 3 = _
    rw [hr]; have := Nat.div_add_mod t.val 4; omega
  show (Pipeline.accAt (fun n h => stAt0 m c n h junk0) (stAt0 m c) 0 t.val _).1 ((cfg0.win 2).xinj (grid0.coords t) y) = G2 m c (((cfg0.win 2).blk t).view.emb y)
  unfold G2
  rw [dif_pos (by rw [hp]; exact t.isLt), hl, fold0_congr m c _ _ _ _ hp.symm]

/-- An index of the array is in point `t`'s block iff each coordinate is in the block's range on its axis. -/
theorem mem_blk2 (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v0).slice (win0_2.rect t)).set ↔ _
  rw [View.set_slice_whole, Rect.mem_set_unit]
  exact Iff.rfl

/-- THE COVERED INDICES: in some flushing point's block iff inside the box those blocks fill. -/
theorem covered_iff2 (i : S1x1.Idx) :
    (∃ t : Fin cfg0.N, (cfg0.win 2).flush t = true ∧ i ∈ ((cfg0.win 2).blk t).view.set) ↔ 0 ≤ (i 0).val ∧ (i 0).val < 1 ∧ 0 ≤ (i 1).val ∧ (i 1).val < 1 := by
  constructor
  · rintro ⟨t, -, hi⟩
    rw [mem_blk2] at hi
    have b0 : win0_2.index t (0 : Fin 2) * 1 ≤ (i 0).val ∧ (i 0).val < win0_2.index t (0 : Fin 2) * 1 + 1 := hi 0
    have b1 : win0_2.index t (1 : Fin 2) * 1 ≤ (i 1).val ∧ (i 1).val < win0_2.index t (1 : Fin 2) * 1 + 1 := hi 1
    obtain ⟨e0, e1, e2⟩ := idx_facts2 t
    omega
  · intro h
    have hi0 : (i 0).val < 1 := (i 0).isLt
    have hi1 : (i 1).val < 1 := (i 1).isLt
    obtain ⟨t, hft, ht⟩ := idx_onto2 ⟨(i 0).val / 1 - 0, by omega⟩ ⟨(i 1).val / 1 - 0, by omega⟩
    have q0 : win0_2.index t (0 : Fin 2) = (i 0).val / 1 - 0 + 0 := congrFun ht 0
    have q1 : win0_2.index t (1 : Fin 2) = (i 1).val / 1 - 0 + 0 := congrFun ht 1
    refine ⟨t, hft, ?_⟩
    rw [mem_blk2]
    intro a
    match a with
    | ⟨0, _⟩ => show win0_2.index t (0 : Fin 2) * 1 ≤ (i 0).val ∧ (i 0).val < win0_2.index t (0 : Fin 2) * 1 + 1; omega
    | ⟨1, _⟩ => show win0_2.index t (1 : Fin 2) * 1 ≤ (i 1).val ∧ (i 1).val < win0_2.index t (1 : Fin 2) * 1 + 1; omega

/-- THE ARRAY after the run: `G2` (the flushing blocks tile it). -/
theorem final2 (c : Dev nD) : (dats m 0 c).arrAt 2 cfg0.N = G2 m c :=
  (dats m 0 c).arrAt_eq_of_cover 2 _ (fun t hf => flushed2_eq m c t hf) (fun i => (covered_iff2 i).2 (by
    have h0 : (i 0).val < 1 := (i 0).isLt; have h1 : (i 1).val < 1 := (i 1).isLt; omega))

/-- Output 2 is written back ONCE, at the last point, and its block is its array: the array after the run is output 2's
    component of the fold over the whole grid — where a hand proof over this window starts. -/
theorem G2_last (c : Dev nD) :
    G2 m c = (Pipeline.accAt (fun n h => stAt0 m c n h junk0) (stAt0 m c) 0 3 (lt_of_lt_of_eq (by decide) N_0.symm)).1 := by
  funext i
  have hi0 : (i 0).val < 1 := (i 0).isLt
  have hi1 : (i 1).val < 1 := (i 1).isLt
  have hp : pt2Of i = 3 := by
    show 4 * (1 * ((i 0).val / 1 - 0) + 1 * ((i 1).val / 1 - 0)) + 3 = _
    omega
  have hl : loc2Of i = i := by
    funext a; apply Fin.ext
    match a with
    | ⟨0, _⟩ => show (i 0).val % 1 = (i 0).val; omega
    | ⟨1, _⟩ => show (i 1).val % 1 = (i 1).val; omega
  unfold G2
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v0) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post2 m r h c).trans (final2 m c),
      kept_main_arg0 m r h c,
      kept_main_arg1 m r h c,
      kept_main_arg2 m r h c,
      kept_main_arg3 m r h c⟩)
    (run_main m ρ)

end Cert.KernelIdeal.Value

end
-- ==== Proof.KI.Block.lean ====
/- What one grid point leaves in its scratch arrays and its result, in terms of the block's log-probabilities: the one-hot table,
   the gathered log-probabilities, the arrays the window loop reads, the rows after the loop and the running sum. -/
module

public import proofs.«01_k».proof.Proof.KI.Payload
public import proofs.«01_k».proof.Proof.KI.Value
public import Idealize.ShloMosaic.Lib.Pipeline.Value

@[expose] public section

set_option maxRecDepth 16384

noncomputable section

namespace Cert.KernelIdeal.Window

open Idealize.ShloMosaic Idealize.ShloMosaic.TcCoe Idealize.ShloMosaic.Tactic Cert.KernelIdeal Cert.KernelIdeal.Facts₀ Cert.Math
open Idealize.SL Idealize.SL.Sem
open Cert.KernelIdeal.Gen (facts)
open scoped NNReal

/-- The label entries of one sequence lie inside the buffer. -/
theorem outInb : ∀ b : Fin 16, ∀ a, (![0, b.val, 0] : Fin 3 → ℕ) a + (![256, 1, 64] : Fin 3 → ℕ) a ≤ S256x16x65.size a := by decide
/-- The log-probabilities of one sequence lie inside the block. -/
theorem inInb : ∀ b : Fin 16, ∀ a, (![0, b.val, 0] : Fin 3 → ℕ) a + (![256, 1, 512] : Fin 3 → ℕ) a ≤ S256x16x512.size a := by decide
/-- The one-hot table of one sequence lies inside the buffer. -/
theorem hotInb : ∀ b : Fin 16, ∀ a, (![b.val, 0, 0] : Fin 3 → ℕ) a + (![1, 512, 64] : Fin 3 → ℕ) a ≤ S16x512x64.size a := by decide
/-- The labels of one sequence are a slice. -/
theorem hotSlices : ∀ b : Fin 16, S16x64.Slices ![b.val, 0] S1x64 := by decide

/-- The columns a sequence's gathered log-probabilities are stored to. -/
def outRect (b : Fin 16) : Rect S256x16x65 := Rect.unit ![0, b.val, 0] ![256, 1, 64] (outInb b)
/-- A sequence's log-probabilities in a block. -/
def inRect (b : Fin 16) : Rect S256x16x512 := Rect.unit ![0, b.val, 0] ![256, 1, 512] (inInb b)
/-- A sequence's part of the one-hot table. -/
def hotRect (b : Fin 16) : Rect S16x512x64 := Rect.unit ![b.val, 0, 0] ![1, 512, 64] (hotInb b)

/-- The store of a sequence's gathered log-probabilities. -/
def piece (x1 : Vec Ideal S256x16x512 .f32) (o : Fin 16 → Vec Ideal S1x512x64 .f32) (b : Fin 16) : View.Piece (Elt Ideal) S256x16x65 .f32 :=
  ⟨outRect b, Gen.k0_pay132 (View.ld x1 (inRect b)) (o b)⟩
/-- The stores of all sequences', the last first. -/
def pieces (x1 : Vec Ideal S256x16x512 .f32) (o : Fin 16 → Vec Ideal S1x512x64 .f32) : List (View.Piece (Elt Ideal) S256x16x65 .f32) :=
  [piece x1 o 15, piece x1 o 14, piece x1 o 13, piece x1 o 12, piece x1 o 11, piece x1 o 10, piece x1 o 9, piece x1 o 8,
   piece x1 o 7, piece x1 o 6, piece x1 o 5, piece x1 o 4, piece x1 o 3, piece x1 o 2, piece x1 o 1, piece x1 o 0]

/-- The columns the gathered log-probabilities are loaded from. -/
def lpoRect : Rect S256x16x65 := Rect.unit ![0, 0, 0] ![256, 16, 64] inb_S256x16x65_S256x16x64_0_0_0
/-- The gathered log-probabilities, loaded back. -/
def lpo (arg5 : Memref sig .tc .vmem S256x16x65 .f32) (x1 : Vec Ideal S256x16x512 .f32) (o : Fin 16 → Vec Ideal S1x512x64 .f32) : Vec Ideal S256x16x64 .f32 :=
  arg5.view.readCov (pieces x1 o) lpoRect.toLoadRect
/-- The blank's log-probabilities. -/
def lpb (x1 : Vec Ideal S256x16x512 .f32) : Vec Ideal S256x16x1 .f32 := View.ld x1 (Rect.unit ![0, 0, 0] ![256, 16, 1] inb_S256x16x512_S256x16x1_0_0_0)

/-- The rows after the window loop. -/
def rowsAfter (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (x1 : Vec Ideal S256x16x512 .f32) (o : Fin 16 → Vec Ideal S1x512x64 .f32) (skip : R) (init : R × R) : R × R :=
  Gen.st_k0_t1 Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) (lpb x1) (Gen.k0_pay151 (lpo arg5 x1 o) (lpb x1))
    (Gen.k0_pay157 (lpo arg5 x1 o) (lpb x1)) skip
    (arg5.view.writes (Elt Ideal) arg5.view.junk (⟨Rect.unit ![0, 0, 0] ![256, 16, 65] inb_S256x16x65_S256x16x65_0_0_0, Gen.k0_pay154 (lpo arg5 x1 o) (lpb x1)⟩ :: pieces x1 o))
    (arg6.view.writes (Elt Ideal) arg6.view.junk [⟨Rect.unit ![0, 0, 0] ![256, 16, 65] inb_S256x16x65_S256x16x65_0_0_0, Gen.k0_pay155 (lpo arg5 x1 o) (lpb x1)⟩])
    (arg7.view.writes (Elt Ideal) arg7.view.junk [⟨Rect.unit ![0, 0, 0] ![256, 16, 65] inb_S256x16x65_S256x16x65_0_0_0, Gen.k0_pay156 (lpo arg5 x1 o) (lpb x1)⟩])
    (arg8.view.writes (Elt Ideal) arg8.view.junk [⟨Rect.unit ![0, 0, 0] ![256, 16, 65] inb_S256x16x65_S256x16x65_0_0_0, Gen.k0_pay158 (Gen.k0_pay157 (lpo arg5 x1 o) (lpb x1))⟩])
    (arg9.view.writes (Elt Ideal) arg9.view.junk [⟨Rect.unit ![0, 0, 0] ![256, 16, 65] inb_S256x16x65_S256x16x65_0_0_0, Gen.k0_pay159 (lpb x1) (Gen.k0_pay151 (lpo arg5 x1 o) (lpb x1))⟩])
    init (Scf.trips (0#32) (Scalar.addi 0#32 16#32) 1#32)

/-- A row array as it is stored whole. -/
def rowPiece (w : Vec Ideal S16x65 .f32) : View.Piece (Elt Ideal) S16x65 .f32 := ⟨Rect.unit ![0, 0] ![16, 65] inb_S16x65_S16x65_0_0, w⟩
/-- The blanks' last column. -/
def colRectE : Rect S16x65 := Rect.unit ![0, 64] ![16, 1] inb_S16x65_S16x1_0_64
/-- The labels' last column. -/
def colRectO : Rect S16x65 := Rect.unit ![0, 63] ![16, 1] inb_S16x65_S16x1_0_63
/-- The blanks' last column, loaded back. -/
def colE (arg10 : Memref sig .tc .vmem S16x65 .f32) (w : Vec Ideal S16x65 .f32) : Vec Ideal S16x1 .f32 :=
  arg10.view.readCov [rowPiece w] colRectE.toLoadRect
/-- The labels' last column, loaded back. -/
def colO (arg11 : Memref sig .tc .vmem S16x65 .f32) (w : Vec Ideal S16x65 .f32) : Vec Ideal S16x1 .f32 :=
  arg11.view.readCov [rowPiece w] colRectO.toLoadRect

/-- The rows of a stored one-hot table. -/
def tblRows (t : Vec Ideal S16x512x64 .f32) (b : Fin 16) : Vec Ideal S1x512x64 .f32 := View.ld t (hotRect b)

/-- The store of a sequence's one-hot rows. -/
def hotPiece (x0 : Vec Ideal S16x64 .i32) (b : Fin 16) : View.Piece (Elt Ideal) S16x512x64 .f32 :=
  ⟨hotRect b, shapeCast S1x512x64
    (select (cmpi CmpIPredicate.eq (iota Kind.tc S512x64 32 [0] iota_S512x64_d0_w32)
      (broadcastTo S512x64 (extractStridedSlice S1x64 ![b.val, 0] (shapeCast S16x64 x0 shapeCasts_S16x64_S16x64) (hotSlices b)) broadcasts_S1x64_S512x64))
      (broadcast S512x64 (Scalar.ofBits .f32 0x3F800000#32 : Ideal .f32)) (broadcast S512x64 (Scalar.ofBits .f32 0x00000000#32 : Ideal .f32)))
    shapeCasts_S512x64_S1x512x64⟩
/-- The stores of all sequences' one-hot rows, the last first. -/
def hotPieces (x0 : Vec Ideal S16x64 .i32) : List (View.Piece (Elt Ideal) S16x512x64 .f32) :=
  [hotPiece x0 15, hotPiece x0 14, hotPiece x0 13, hotPiece x0 12, hotPiece x0 11, hotPiece x0 10, hotPiece x0 9, hotPiece x0 8,
   hotPiece x0 7, hotPiece x0 6, hotPiece x0 5, hotPiece x0 4, hotPiece x0 3, hotPiece x0 2, hotPiece x0 1, hotPiece x0 0]
/-- The one-hot rows loaded back. -/
def hotRows (arg4 : Memref sig .tc .vmem S16x512x64 .f32) (x0 : Vec Ideal S16x64 .i32) (b : Fin 16) : Vec Ideal S1x512x64 .f32 :=
  arg4.view.readCov (hotPieces x0) (hotRect b).toLoadRect

set_option maxHeartbeats 1600000 in
/-- The blanks' row a middle point leaves. -/
theorem sout0_B_6_eq  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : ¬Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32) :
    Body.sout0_B_6 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = Gen.k0_pay164 (F := Ideal) (rowsAfter c i arg1 harg1 arg2 harg2 arg3 harg3 arg4 harg4 arg5 harg5 arg6 harg6 arg7 harg7 arg8 harg8 arg9 harg9 arg10 harg10 arg11 harg11 arg12 harg12 arg13 harg13 x1 (tblRows xs0) xs8 (xs6, xs7)).1 := by
  frame_out
  rfl

set_option maxHeartbeats 1600000 in
/-- The labels' row a middle point leaves. -/
theorem sout0_B_7_eq  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : ¬Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32) :
    Body.sout0_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = Gen.k0_pay165 (F := Ideal) (rowsAfter c i arg1 harg1 arg2 harg2 arg3 harg3 arg4 harg4 arg5 harg5 arg6 harg6 arg7 harg7 arg8 harg8 arg9 harg9 arg10 harg10 arg11 harg11 arg12 harg12 arg13 harg13 x1 (tblRows xs0) xs8 (xs6, xs7)).2 := by
  frame_out
  rfl

set_option maxHeartbeats 1600000 in
/-- The running sum a middle point leaves. -/
theorem sout0_B_9_eq  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : ¬Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32) :
    Body.sout0_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = Gen.k0_pay160 (Gen.k0_pay151 (lpo arg5 x1 (tblRows xs0)) (lpb x1)) xs9 := by
  frame_out
  rfl

set_option maxHeartbeats 1600000 in
/-- The blanks' row the last point leaves. -/
theorem sout0_C_6_eq  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32) :
    Body.sout0_C_6 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = Gen.k0_pay164 (F := Ideal) (rowsAfter c i arg1 harg1 arg2 harg2 arg3 harg3 arg4 harg4 arg5 harg5 arg6 harg6 arg7 harg7 arg8 harg8 arg9 harg9 arg10 harg10 arg11 harg11 arg12 harg12 arg13 harg13 x1 (tblRows xs0) xs8 (xs6, xs7)).1 := by
  frame_out
  rfl

set_option maxHeartbeats 1600000 in
/-- The labels' row the last point leaves. -/
theorem sout0_C_7_eq  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32) :
    Body.sout0_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = Gen.k0_pay165 (F := Ideal) (rowsAfter c i arg1 harg1 arg2 harg2 arg3 harg3 arg4 harg4 arg5 harg5 arg6 harg6 arg7 harg7 arg8 harg8 arg9 harg9 arg10 harg10 arg11 harg11 arg12 harg12 arg13 harg13 x1 (tblRows xs0) xs8 (xs6, xs7)).2 := by
  frame_out
  rfl

set_option maxHeartbeats 1600000 in
/-- The running sum the last point leaves. -/
theorem sout0_C_9_eq  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32) :
    Body.sout0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = Gen.k0_pay160 (Gen.k0_pay151 (lpo arg5 x1 (tblRows xs0)) (lpb x1)) xs9 := by
  frame_out
  rfl

set_option maxHeartbeats 1600000 in
/-- The table the first point leaves. -/
theorem sout0_A_0_eq  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : Body.cond0_0 i) (hc1 : ¬Body.cond0_1 i)
    (x0 : Vec Ideal S16x64 .i32) (x1 : Vec Ideal S256x16x512 .f32) :
    Body.sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 = View.canon (hotPieces x0) := by
  frame_out
  rfl

set_option maxHeartbeats 1600000 in
/-- The blanks' row the first point leaves. -/
theorem sout0_A_6_eq  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : Body.cond0_0 i) (hc1 : ¬Body.cond0_1 i)
    (x0 : Vec Ideal S16x64 .i32) (x1 : Vec Ideal S256x16x512 .f32) :
    Body.sout0_A_6 c i arg1 harg1 arg2 harg2 arg3 harg3 arg4 harg4 arg5 harg5 arg6 harg6 arg7 harg7 arg8 harg8 arg9 harg9 arg10 harg10 arg11 harg11 arg12 harg12 arg13 harg13 hc0 hc1 x0 x1 = Gen.k0_pay164 (F := Ideal) (rowsAfter c i arg1 harg1 arg2 harg2 arg3 harg3 arg4 harg4 arg5 harg5 arg6 harg6 arg7 harg7 arg8 harg8 arg9 harg9 arg10 harg10 arg11 harg11 arg12 harg12 arg13 harg13 x1 (hotRows arg4 x0) (Gen.k0_pay128 (F := Ideal) (Gen.k0_pay2 x0)) (Gen.k0_pay129 (F := Ideal), Gen.k0_pay130 (F := Ideal))).1 := by
  frame_out
  rfl

set_option maxHeartbeats 1600000 in
/-- The labels' row the first point leaves. -/
theorem sout0_A_7_eq  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : Body.cond0_0 i) (hc1 : ¬Body.cond0_1 i)
    (x0 : Vec Ideal S16x64 .i32) (x1 : Vec Ideal S256x16x512 .f32) :
    Body.sout0_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 = Gen.k0_pay165 (F := Ideal) (rowsAfter c i arg1 harg1 arg2 harg2 arg3 harg3 arg4 harg4 arg5 harg5 arg6 harg6 arg7 harg7 arg8 harg8 arg9 harg9 arg10 harg10 arg11 harg11 arg12 harg12 arg13 harg13 x1 (hotRows arg4 x0) (Gen.k0_pay128 (F := Ideal) (Gen.k0_pay2 x0)) (Gen.k0_pay129 (F := Ideal), Gen.k0_pay130 (F := Ideal))).2 := by
  frame_out
  rfl

set_option maxHeartbeats 1600000 in
/-- The skips the first point leaves. -/
theorem sout0_A_8_eq  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : Body.cond0_0 i) (hc1 : ¬Body.cond0_1 i)
    (x0 : Vec Ideal S16x64 .i32) (x1 : Vec Ideal S256x16x512 .f32) :
    Body.sout0_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 = Gen.k0_pay128 (F := Ideal) (Gen.k0_pay2 x0) := by
  frame_out
  rfl

set_option maxHeartbeats 1600000 in
/-- The running sum the first point leaves. -/
theorem sout0_A_9_eq  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : Body.cond0_0 i) (hc1 : ¬Body.cond0_1 i)
    (x0 : Vec Ideal S16x64 .i32) (x1 : Vec Ideal S256x16x512 .f32) :
    Body.sout0_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 = Gen.k0_pay160 (Gen.k0_pay151 (lpo arg5 x1 (hotRows arg4 x0)) (lpb x1)) (Gen.k0_pay131 (F := Ideal)) := by
  frame_out
  rfl

set_option maxHeartbeats 1600000 in
/-- The result the last point writes. -/
theorem out0_C_2_eq  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32) :
    Body.out0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = Gen.k0_pay1 (colE arg10 (Gen.k0_pay164 (F := Ideal) (rowsAfter c i arg1 harg1 arg2 harg2 arg3 harg3 arg4 harg4 arg5 harg5 arg6 harg6 arg7 harg7 arg8 harg8 arg9 harg9 arg10 harg10 arg11 harg11 arg12 harg12 arg13 harg13 x1 (tblRows xs0) xs8 (xs6, xs7)).1)) (colO arg11 (Gen.k0_pay165 (F := Ideal) (rowsAfter c i arg1 harg1 arg2 harg2 arg3 harg3 arg4 harg4 arg5 harg5 arg6 harg6 arg7 harg7 arg8 harg8 arg9 harg9 arg10 harg10 arg11 harg11 arg12 harg12 arg13 harg13 x1 (tblRows xs0) xs8 (xs6, xs7)).2)) (Gen.k0_pay160 (Gen.k0_pay151 (lpo arg5 x1 (tblRows xs0)) (lpb x1)) xs9) := by
  frame_out
  rfl

end Cert.KernelIdeal.Window
end
end
-- ==== Proof.KI.BlockValue.lean ====
/- The values of what one grid point leaves, on a block of log-probabilities. -/
module

public import proofs.«01_k».proof.Proof.KI.Block
public import Idealize.ShloMosaic.Lib.VecWindow

@[expose] public section

set_option maxRecDepth 16384

noncomputable section

namespace Cert.KernelIdeal.Window

open Idealize.ShloMosaic Idealize.ShloMosaic.TcCoe Idealize.ShloMosaic.Tactic Cert.KernelIdeal Cert.KernelIdeal.Facts₀ Cert.Math
open Idealize.SL Idealize.SL.Sem
open Cert.KernelIdeal.Gen (facts)
open scoped NNReal

variable (e : ℕ → Fin 16 → ℕ → ℝ≥0) (lab : Fin 16 → ℕ → ℕ)

/-- Rows `o` are the sequences' one-hot rows. -/
def IsHot (o : Fin 16 → Vec Ideal S1x512x64 .f32) : Prop := ∀ b c j, o b (ix3 0 c j) = up (if c.val = lab b j.val then 1 else 0)

/-- The pieces of the label entries, listed by sequence. -/
theorem pieces_eq (x1 : Vec Ideal S256x16x512 .f32) (o : Fin 16 → Vec Ideal S1x512x64 .f32) :
    pieces x1 o = (List.finRange 16).reverse.map (piece x1 o) := rfl

/-- The pieces of the one-hot table, listed by sequence. -/
theorem hotPieces_eq (x0 : Vec Ideal S16x64 .i32) : hotPieces x0 = (List.finRange 16).reverse.map (hotPiece x0) := rfl

/-- Membership in the list of all sequences' pieces. -/
theorem mem_all {α : Type*} (f : Fin 16 → α) (a : α) : a ∈ (List.finRange 16).reverse.map f ↔ ∃ b, f b = a := by simp

/-- The coordinates a unit-stride rectangle reaches. -/
theorem at3 {s0 s1 s2 : ℕ} (off size : Fin 3 → ℕ) (inb : ∀ a, off a + size a ≤ (⟨3, ![s0, s1, s2]⟩ : Shape).size a)
    (x : (Rect.unit (s := (⟨3, ![s0, s1, s2]⟩ : Shape)) off size inb).shape.Idx) :
    ((Rect.unit (s := (⟨3, ![s0, s1, s2]⟩ : Shape)) off size inb).idx x 0).val = off 0 + (x 0).val
      ∧ ((Rect.unit (s := (⟨3, ![s0, s1, s2]⟩ : Shape)) off size inb).idx x 1).val = off 1 + (x 1).val
      ∧ ((Rect.unit (s := (⟨3, ![s0, s1, s2]⟩ : Shape)) off size inb).idx x 2).val = off 2 + (x 2).val :=
  ⟨Rect.idx_unit_val _ _ _ _ _, Rect.idx_unit_val _ _ _ _ _, Rect.idx_unit_val _ _ _ _ _⟩

/-- A coordinate of an index of a rectangle, from the rectangle's corner. -/
theorem at2 {s0 s1 : ℕ} (off size : Fin 2 → ℕ) (inb : ∀ a, off a + size a ≤ (⟨2, ![s0, s1]⟩ : Shape).size a)
    (x : (Rect.unit (s := (⟨2, ![s0, s1]⟩ : Shape)) off size inb).shape.Idx) :
    ((Rect.unit (s := (⟨2, ![s0, s1]⟩ : Shape)) off size inb).idx x 0).val = off 0 + (x 0).val
      ∧ ((Rect.unit (s := (⟨2, ![s0, s1]⟩ : Shape)) off size inb).idx x 1).val = off 1 + (x 1).val :=
  ⟨Rect.idx_unit_val _ _ _ _ _, Rect.idx_unit_val _ _ _ _ _⟩

/-- The gathered log-probabilities by index into the whole array. -/
def labAt (i : S256x16x65.Idx) : Ideal .f32 := ell (e (i 0).val (i 1) (lab (i 1) (i 2).val))

/-- A label entry from an index's three coordinates. -/
theorem labAt_of (i : S256x16x65.Idx) (t : ℕ) (b : Fin 16) (j : ℕ) (h0 : (i 0).val = t) (h1 : (i 1).val = b.val) (h2 : (i 2).val = j) :
    labAt e lab i = ell (e t b (lab b j)) := by
  have h1' : i 1 = b := Fin.ext h1
  unfold labAt
  rw [h0, h1', h2]

/-- A log-probability from an index's three coordinates. -/
theorem lpV_of (i : S256x16x512.Idx) (t : ℕ) (b : Fin 16) (j : ℕ) (h0 : (i 0).val = t) (h1 : (i 1).val = b.val) (h2 : (i 2).val = j) :
    lpV e i = ell (e t b j) := by
  have h1' : i 1 = b := Fin.ext h1
  unfold lpV
  rw [h0, h1', h2]

/-- An entry of the one-hot table from an index's three coordinates. -/
theorem tbl_of (i : S16x512x64.Idx) (b : Fin 16) (c j : ℕ) (h0 : (i 0).val = b.val) (h1 : (i 1).val = c) (h2 : (i 2).val = j) :
    tbl lab i = up (if c = lab b j then 1 else 0) := by
  have h0' : i 0 = b := Fin.ext h0
  unfold tbl
  rw [h0', h1, h2]

/-- The products with one sequence's one-hot table are its label entries. -/
theorem piece_value (o : Fin 16 → Vec Ideal S1x512x64 .f32) (hl : ∀ b j, lab b j < 512) (ho : IsHot lab o) (b : Fin 16)
    (x : (outRect b).shape.Idx) : (piece (lpV e) o b).2 x = labAt e lab ((outRect b).idx x) := by
  have hx : (x 1).val < 1 := (x 1).isLt
  have h := at3 (s0 := 256) (s1 := 16) (s2 := 65) ![0, b.val, 0] ![256, 1, 64] (outInb b) x
  refine (dot_value e lab b hl _ _ (fun t c => ?_) (ho b) x).trans (labAt_of e lab _ _ b _ (h.1.trans (Nat.zero_add _)) ?_ (h.2.2.trans (Nat.zero_add _))).symm
  · have h := at3 (s0 := 256) (s1 := 16) (s2 := 512) ![0, b.val, 0] ![256, 1, 512] (inInb b) (ix3 t 0 c)
    exact lpV_of e _ _ b _ (h.1.trans (Nat.zero_add _)) h.2.1 (h.2.2.trans (Nat.zero_add _))
  · refine h.2.1.trans ?_
    show b.val + (x 1).val = b.val
    omega

/-- The label entries of a block. -/
theorem lpo_value (arg5 : Memref sig .tc .vmem S256x16x65 .f32) (o : Fin 16 → Vec Ideal S1x512x64 .f32) (hl : ∀ b j, lab b j < 512)
    (ho : IsHot lab o) : lpo arg5 (lpV e) o = labV e lab := by
  unfold lpo
  rw [View.readCov_eq_canon']
  funext y
  have hy : (y 2).val < 64 := (y 2).isLt
  have h := at3 (s0 := 256) (s1 := 16) (s2 := 65) ![0, 0, 0] ![256, 16, 64] inb_S256x16x65_S256x16x64_0_0_0 y
  refine (View.canon_apply_of_pieces (labAt e lab) _ ?_ _ ?_).trans
    (labAt_of e lab _ (y 0).val (y 1) (y 2).val (h.1.trans (Nat.zero_add _)) (h.2.1.trans (Nat.zero_add _)) (h.2.2.trans (Nat.zero_add _)))
  · rw [pieces_eq]
    intro p hp x
    obtain ⟨b, rfl⟩ := (mem_all _ _).1 hp
    exact piece_value e lab o hl ho b x
  · rw [pieces_eq]
    refine ⟨_, (mem_all _ _).2 ⟨y 1, rfl⟩, ?_⟩
    show lpoRect.idx y ∈ (outRect (y 1)).set
    unfold outRect
    rw [Rect.mem_set_unit]
    have k0 : (lpoRect.idx y 0).val < 256 := (lpoRect.idx y 0).isLt
    have k1 : (lpoRect.idx y 1).val = 0 + (y 1).val := h.2.1
    have k2 : (lpoRect.idx y 2).val = 0 + (y 2).val := h.2.2
    intro a
    match a with
    | ⟨0, _⟩ => exact ⟨Nat.zero_le _, show _ < 0 + 256 by rw [Nat.zero_add]; exact k0⟩
    | ⟨1, _⟩ => exact ⟨show (y 1).val ≤ (lpoRect.idx y 1).val by omega, show (lpoRect.idx y 1).val < (y 1).val + 1 by omega⟩
    | ⟨2, _⟩ => exact ⟨Nat.zero_le _, show (lpoRect.idx y 2).val < 0 + 64 by omega⟩

/-- The blank entries of a block. -/
theorem lpb_value : lpb (lpV e) = blankV e := by
  funext y
  have hy : (y 2).val < 1 := (y 2).isLt
  have h := at3 (s0 := 256) (s1 := 16) (s2 := 512) ![0, 0, 0] ![256, 16, 1] inb_S256x16x512_S256x16x1_0_0_0 y
  exact lpV_of e _ _ (y 1) _ (h.1.trans (Nat.zero_add _)) (h.2.1.trans (Nat.zero_add _)) (h.2.2.trans (show 0 + (y 2).val = 0 by omega))

/-- The rows read from the one-hot table are one-hot. -/
theorem tblRows_hot : IsHot lab (tblRows (tbl lab)) := fun b c j => by
  have h := at3 (s0 := 16) (s1 := 512) (s2 := 64) ![b.val, 0, 0] ![1, 512, 64] (hotInb b) (ix3 0 c j)
  exact tbl_of lab _ b _ _ h.1 (h.2.1.trans (Nat.zero_add _)) (h.2.2.trans (Nat.zero_add _))

/-- One sequence's piece of the one-hot table. -/
theorem hotPiece_value (hl : ∀ b j, lab b j < 512) (b : Fin 16) (x : (hotRect b).shape.Idx) :
    (hotPiece (labW lab) b).2 x = tbl lab ((hotRect b).idx x) := by
  have h := at3 (s0 := 16) (s1 := 512) (s2 := 64) ![b.val, 0, 0] ![1, 512, 64] (hotInb b) x
  have hx : (x 0).val < 1 := (x 0).isLt
  refine Eq.trans ?_ (tbl_of lab _ b (x 1).val (x 2).val (h.1.trans (show b.val + (x 0).val = b.val by omega)) (h.2.1.trans (Nat.zero_add _)) (h.2.2.trans (Nat.zero_add _))).symm
  refine Eq.trans ?_ (hot_value lab hl (x 1).val (x 1).isLt b (x 2).val)
  pointwise [hotPiece]
  rfl

/-- The pieces make the one-hot table. -/
theorem hotPieces_value (hl : ∀ b j, lab b j < 512) : View.canon (hotPieces (labW lab)) = tbl lab := by
  funext y
  refine View.canon_apply_of_pieces (tbl lab) _ ?_ y ?_
  · rw [hotPieces_eq]
    intro p hp x
    obtain ⟨b, rfl⟩ := (mem_all _ _).1 hp
    exact hotPiece_value lab hl b x
  · rw [hotPieces_eq]
    refine ⟨_, (mem_all _ _).2 ⟨y 0, rfl⟩, ?_⟩
    show y ∈ (hotRect (y 0)).set
    unfold hotRect
    rw [Rect.mem_set_unit]
    have k1 : (y 1).val < 512 := (y 1).isLt
    have k2 : (y 2).val < 64 := (y 2).isLt
    intro a
    match a with
    | ⟨0, _⟩ => exact ⟨show (y 0).val ≤ (y 0).val from le_rfl, show (y 0).val < (y 0).val + 1 by omega⟩
    | ⟨1, _⟩ => exact ⟨Nat.zero_le _, show (y 1).val < 0 + 512 by omega⟩
    | ⟨2, _⟩ => exact ⟨Nat.zero_le _, show (y 2).val < 0 + 64 by omega⟩

/-- The rows read from the table just stored are one-hot. -/
theorem hotRows_hot (arg4 : Memref sig .tc .vmem S16x512x64 .f32) (hl : ∀ b j, lab b j < 512) : IsHot lab (hotRows arg4 (labW lab)) := fun b c j => by
  unfold hotRows
  rw [View.readCov_eq_canon', hotPieces_value lab hl]
  exact tblRows_hot lab b c j

/-- One piece covering a row is the row. -/
theorem row_canon (w : Vec Ideal S16x65 .f32) : View.canon [rowPiece w] = w := by
  funext y
  refine View.canon_apply_of_pieces w _ (fun p hp x => ?_) y ⟨_, List.mem_singleton_self _, ?_⟩
  · obtain rfl := List.mem_singleton.1 hp
    refine congrArg w ?_
    funext a
    exact Fin.ext (((Rect.idx_unit_val ![0, 0] ![16, 65] inb_S16x65_S16x65_0_0 x a).trans (by match a with | ⟨0, _⟩ => exact Nat.zero_add _ | ⟨1, _⟩ => exact Nat.zero_add _)).symm)
  · show y ∈ (Rect.unit ![0, 0] ![16, 65] inb_S16x65_S16x65_0_0).set
    rw [Rect.mem_set_unit]
    have k0 : (y 0).val < 16 := (y 0).isLt
    have k1 : (y 1).val < 65 := (y 1).isLt
    intro a
    match a with
    | ⟨0, _⟩ => exact ⟨Nat.zero_le _, show (y 0).val < 0 + 16 by omega⟩
    | ⟨1, _⟩ => exact ⟨Nat.zero_le _, show (y 1).val < 0 + 65 by omega⟩

/-- An entry of a row of logarithms from an index's two coordinates. -/
theorem lvec_of (a : L) (i : S16x65.Idx) (b : Fin 16) (j : ℕ) (h0 : (i 0).val = b.val) (h1 : (i 1).val = j) : lvec a i = ell (a b j) := by
  have h0' : i 0 = b := Fin.ext h0
  unfold lvec
  rw [h0', h1]

/-- The last even state's column. -/
theorem colE_value (arg10 : Memref sig .tc .vmem S16x65 .f32) (a : L) : colE arg10 (lvec a) = fun i => ell (a (i 0) 64) := by
  unfold colE
  rw [View.readCov_eq_canon', row_canon]
  funext y
  have hy : (y 1).val < 1 := (y 1).isLt
  have h := at2 (s0 := 16) (s1 := 65) ![0, 64] ![16, 1] inb_S16x65_S16x1_0_64 y
  exact lvec_of a _ (y 0) 64 (h.1.trans (Nat.zero_add _)) (h.2.trans (show 64 + (y 1).val = 64 by omega))

/-- The last odd state's column. -/
theorem colO_value (arg11 : Memref sig .tc .vmem S16x65 .f32) (a : L) : colO arg11 (lvec a) = fun i => ell (a (i 0) 63) := by
  unfold colO
  rw [View.readCov_eq_canon', row_canon]
  funext y
  have hy : (y 1).val < 1 := (y 1).isLt
  have h := at2 (s0 := 16) (s1 := 65) ![0, 63] ![16, 1] inb_S16x65_S16x1_0_63 y
  exact lvec_of a _ (y 0) 63 (h.1.trans (Nat.zero_add _)) (h.2.trans (show 63 + (y 1).val = 63 by omega))

set_option maxHeartbeats 1600000 in
/-- The rows after the window loop: 256 plain steps of the divided probabilities. -/
theorem rowsAfter_value (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (o : Fin 16 → Vec Ideal S1x512x64 .f32) (hl : ∀ b j, lab b j < 512) (ho : IsHot lab o) (a b : L) :
    rowsAfter c i arg1 harg1 arg2 harg2 arg3 harg3 arg4 harg4 arg5 harg5 arg6 harg6 arg7 harg7 arg8 harg8 arg9 harg9 arg10 harg10 arg11 harg11 arg12 harg12 arg13 harg13 (lpV e) o (vec (sk lab)) (lvec a, lvec b)
      = (lvec (adv (sk lab) (pr e lab) (qr e lab) (a, b) 256).1, lvec (adv (sk lab) (pr e lab) (qr e lab) (a, b) 256).2) := by
  unfold rowsAfter
  rw [lpo_value e lab arg5 o hl ho, lpb_value, big_value, show Scf.trips (0#32) (Scalar.addi 0#32 16#32) 1#32 = 16 by decide]
  refine loop_value Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _ _ _ a b (sk lab) (pr e lab) (qr e lab) ?_ ?_ ?_ ?_ ?_ 16 le_rfl
  · rw [pay154]; exact View.read_writes_full _ _ _ _ _
  · rw [pay155]; exact View.read_writes_full _ _ _ _ _
  · rw [pay156]; exact View.read_writes_full _ _ _ _ _
  · rw [pay157]; exact View.read_writes_full _ _ _ _ _
  · rw [pay159]; exact View.read_writes_full _ _ _ _ _

end Cert.KernelIdeal.Window
end
end
-- ==== Proof.KI.Point.lean ====
/- What a grid point leaves, as plain steps on rows of reals, in each of the kernel's three cases. -/
module

public import proofs.«01_k».proof.Proof.KI.BlockValue

@[expose] public section

set_option maxRecDepth 16384

noncomputable section

namespace Cert.KernelIdeal.Window

open Idealize.ShloMosaic Idealize.ShloMosaic.TcCoe Idealize.ShloMosaic.Tactic Cert.KernelIdeal Cert.KernelIdeal.Facts₀ Cert.Math
open Idealize.SL Idealize.SL.Sem
open Cert.KernelIdeal.Gen (facts)
open scoped NNReal

variable (e : ℕ → Fin 16 → ℕ → ℝ≥0) (lab : Fin 16 → ℕ → ℕ)

/-- The rows before the first step, for every sequence. -/
def start : L × L := (fun _ => rows0.1, fun _ => rows0.2)

/-- A sum's logarithm, one for each sequence. -/
def accV (m : Fin 16 → ℝ≥0) : Vec Ideal S16x1 .f32 := fun i => ell (m (i 0))

/-- What is stored of the even states' references is the window's result. -/
theorem pay164_id (w : R) : Gen.k0_pay164 (F := Ideal) w = w := by
  funext i
  pointwise [Gen.k0_pay164]

/-- What is stored of the odd states' references is the window's result. -/
theorem pay165_id (w : R) : Gen.k0_pay165 (F := Ideal) w = w := by
  funext i
  pointwise [Gen.k0_pay165]

/-- The skips of the labels read. -/
theorem labs_skip (hl : ∀ b j, lab b j < 512) : Gen.k0_pay128 (F := Ideal) (Gen.k0_pay2 (F := Ideal) (labW lab)) = vec (sk lab) := pay128 lab hl

set_option maxHeartbeats 1600000 in
/-- The blanks' row a middle point leaves: 256 plain steps on. -/
theorem B6  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : ¬Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32)
    (hl : ∀ b j, lab b j < 512) (h0 : x0 = labW lab) (h1 : x1 = lpV e) (a b : L) (m : Fin 16 → ℝ≥0) (g0 : xs0 = tbl lab) (g6 : xs6 = lvec a) (g7 : xs7 = lvec b) (g8 : xs8 = vec (sk lab)) (g9 : xs9 = accV m) :
    Body.sout0_B_6 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = lvec (adv (sk lab) (pr e lab) (qr e lab) (a, b) 256).1 := by
  rw [sout0_B_6_eq, pay164_id, h1, g0, g6, g7, g8, rowsAfter_value e lab _ _ _ _ _ _ _ _ _ _ _ _ _ _ _ _ _ _ _ _ _ _ _ _ _ _ _ _ _ hl (tblRows_hot lab)]

set_option maxHeartbeats 1600000 in
/-- The labels' row a middle point leaves: 256 plain steps on. -/
theorem B7  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : ¬Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32)
    (hl : ∀ b j, lab b j < 512) (h0 : x0 = labW lab) (h1 : x1 = lpV e) (a b : L) (m : Fin 16 → ℝ≥0) (g0 : xs0 = tbl lab) (g6 : xs6 = lvec a) (g7 : xs7 = lvec b) (g8 : xs8 = vec (sk lab)) (g9 : xs9 = accV m) :
    Body.sout0_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = lvec (adv (sk lab) (pr e lab) (qr e lab) (a, b) 256).2 := by
  rw [sout0_B_7_eq, pay165_id, h1, g0, g6, g7, g8, rowsAfter_value e lab _ _ _ _ _ _ _ _ _ _ _ _ _ _ _ _ _ _ _ _ _ _ _ _ _ _ _ _ _ hl (tblRows_hot lab)]

set_option maxHeartbeats 1600000 in
/-- The running sum a middle point leaves. -/
theorem B9  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : ¬Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32)
    (hl : ∀ b j, lab b j < 512) (h0 : x0 = labW lab) (h1 : x1 = lpV e) (a b : L) (m : Fin 16 → ℝ≥0) (g0 : xs0 = tbl lab) (g6 : xs6 = lvec a) (g7 : xs7 = lvec b) (g8 : xs8 = vec (sk lab)) (g9 : xs9 = accV m) :
    Body.sout0_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = accV fun r => m r * ∏ t ∈ Finset.range 256, big e lab t r := by
  rw [sout0_B_9_eq, h1, g0, lpo_value e lab _ _ hl (tblRows_hot lab), lpb_value, big_value]
  exact pay160 e lab _ m g9

set_option maxHeartbeats 1600000 in
/-- The blanks' row the last point leaves: 256 plain steps on. -/
theorem C6  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32)
    (hl : ∀ b j, lab b j < 512) (h0 : x0 = labW lab) (h1 : x1 = lpV e) (a b : L) (m : Fin 16 → ℝ≥0) (g0 : xs0 = tbl lab) (g6 : xs6 = lvec a) (g7 : xs7 = lvec b) (g8 : xs8 = vec (sk lab)) (g9 : xs9 = accV m) :
    Body.sout0_C_6 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = lvec (adv (sk lab) (pr e lab) (qr e lab) (a, b) 256).1 := by
  rw [sout0_C_6_eq, pay164_id, h1, g0, g6, g7, g8, rowsAfter_value e lab _ _ _ _ _ _ _ _ _ _ _ _ _ _ _ _ _ _ _ _ _ _ _ _ _ _ _ _ _ hl (tblRows_hot lab)]

set_option maxHeartbeats 1600000 in
/-- The labels' row the last point leaves: 256 plain steps on. -/
theorem C7  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32)
    (hl : ∀ b j, lab b j < 512) (h0 : x0 = labW lab) (h1 : x1 = lpV e) (a b : L) (m : Fin 16 → ℝ≥0) (g0 : xs0 = tbl lab) (g6 : xs6 = lvec a) (g7 : xs7 = lvec b) (g8 : xs8 = vec (sk lab)) (g9 : xs9 = accV m) :
    Body.sout0_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = lvec (adv (sk lab) (pr e lab) (qr e lab) (a, b) 256).2 := by
  rw [sout0_C_7_eq, pay165_id, h1, g0, g6, g7, g8, rowsAfter_value e lab _ _ _ _ _ _ _ _ _ _ _ _ _ _ _ _ _ _ _ _ _ _ _ _ _ _ _ _ _ hl (tblRows_hot lab)]

set_option maxHeartbeats 1600000 in
/-- The running sum the last point leaves. -/
theorem C9  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32)
    (hl : ∀ b j, lab b j < 512) (h0 : x0 = labW lab) (h1 : x1 = lpV e) (a b : L) (m : Fin 16 → ℝ≥0) (g0 : xs0 = tbl lab) (g6 : xs6 = lvec a) (g7 : xs7 = lvec b) (g8 : xs8 = vec (sk lab)) (g9 : xs9 = accV m) :
    Body.sout0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = accV fun r => m r * ∏ t ∈ Finset.range 256, big e lab t r := by
  rw [sout0_C_9_eq, h1, g0, lpo_value e lab _ _ hl (tblRows_hot lab), lpb_value, big_value]
  exact pay160 e lab _ m g9

set_option maxHeartbeats 1600000 in
/-- The table the first point leaves. -/
theorem A0  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : Body.cond0_0 i) (hc1 : ¬Body.cond0_1 i)
    (x0 : Vec Ideal S16x64 .i32) (x1 : Vec Ideal S256x16x512 .f32)
    (hl : ∀ b j, lab b j < 512) (h0 : x0 = labW lab) (h1 : x1 = lpV e) :
    Body.sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 = tbl lab := by
  rw [sout0_A_0_eq, h0]
  exact hotPieces_value lab hl

set_option maxHeartbeats 1600000 in
/-- The blanks' row the first point leaves. -/
theorem A6  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : Body.cond0_0 i) (hc1 : ¬Body.cond0_1 i)
    (x0 : Vec Ideal S16x64 .i32) (x1 : Vec Ideal S256x16x512 .f32)
    (hl : ∀ b j, lab b j < 512) (h0 : x0 = labW lab) (h1 : x1 = lpV e) :
    Body.sout0_A_6 c i arg1 harg1 arg2 harg2 arg3 harg3 arg4 harg4 arg5 harg5 arg6 harg6 arg7 harg7 arg8 harg8 arg9 harg9 arg10 harg10 arg11 harg11 arg12 harg12 arg13 harg13 hc0 hc1 x0 x1 = lvec (adv (sk lab) (pr e lab) (qr e lab) start 256).1 := by
  rw [sout0_A_6_eq, pay164_id, h0, h1, labs_skip lab hl, pay129, pay130, rowsAfter_value e lab _ _ _ _ _ _ _ _ _ _ _ _ _ _ _ _ _ _ _ _ _ _ _ _ _ _ _ _ _ hl (hotRows_hot lab _ hl)]
  rfl

set_option maxHeartbeats 1600000 in
/-- The labels' row the first point leaves. -/
theorem A7  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : Body.cond0_0 i) (hc1 : ¬Body.cond0_1 i)
    (x0 : Vec Ideal S16x64 .i32) (x1 : Vec Ideal S256x16x512 .f32)
    (hl : ∀ b j, lab b j < 512) (h0 : x0 = labW lab) (h1 : x1 = lpV e) :
    Body.sout0_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 = lvec (adv (sk lab) (pr e lab) (qr e lab) start 256).2 := by
  rw [sout0_A_7_eq, pay165_id, h0, h1, labs_skip lab hl, pay129, pay130, rowsAfter_value e lab _ _ _ _ _ _ _ _ _ _ _ _ _ _ _ _ _ _ _ _ _ _ _ _ _ _ _ _ _ hl (hotRows_hot lab _ hl)]
  rfl

set_option maxHeartbeats 1600000 in
/-- The skips the first point leaves. -/
theorem A8  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : Body.cond0_0 i) (hc1 : ¬Body.cond0_1 i)
    (x0 : Vec Ideal S16x64 .i32) (x1 : Vec Ideal S256x16x512 .f32)
    (hl : ∀ b j, lab b j < 512) (h0 : x0 = labW lab) (h1 : x1 = lpV e) :
    Body.sout0_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 = vec (sk lab) := by
  rw [sout0_A_8_eq, h0]
  exact labs_skip lab hl

set_option maxHeartbeats 1600000 in
/-- The running sum the first point leaves. -/
theorem A9  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : Body.cond0_0 i) (hc1 : ¬Body.cond0_1 i)
    (x0 : Vec Ideal S16x64 .i32) (x1 : Vec Ideal S256x16x512 .f32)
    (hl : ∀ b j, lab b j < 512) (h0 : x0 = labW lab) (h1 : x1 = lpV e) :
    Body.sout0_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 = accV fun r => ∏ t ∈ Finset.range 256, big e lab t r := by
  rw [sout0_A_9_eq, h0, h1, lpo_value e lab _ _ hl (hotRows_hot lab _ hl), lpb_value, big_value]
  refine (pay160 e lab _ (fun _ => 1) pay131).trans ?_
  funext i
  exact congrArg ell (one_mul _)

set_option maxHeartbeats 1600000 in
/-- The result the last point writes: minus the sum of the sequences' log-likelihoods. -/
theorem C2  (c : Dev nD) (i : grid0.Coords) (arg1 : Memref sig .tc .vmem S16x64 .i32) (harg1 : arg1.IsWhole) (arg2 : Memref sig .tc .vmem S256x16x512 .f32) (harg2 : arg2.IsWhole) (arg3 : Memref sig .tc .vmem S1x1 .f32) (harg3 : arg3.IsWhole) (arg4 : Memref sig .tc .vmem S16x512x64 .f32) (harg4 : arg4.IsWhole) (arg5 : Memref sig .tc .vmem S256x16x65 .f32) (harg5 : arg5.IsWhole) (arg6 : Memref sig .tc .vmem S256x16x65 .f32) (harg6 : arg6.IsWhole) (arg7 : Memref sig .tc .vmem S256x16x65 .f32) (harg7 : arg7.IsWhole) (arg8 : Memref sig .tc .vmem S256x16x65 .f32) (harg8 : arg8.IsWhole) (arg9 : Memref sig .tc .vmem S256x16x65 .f32) (harg9 : arg9.IsWhole) (arg10 : Memref sig .tc .vmem S16x65 .f32) (harg10 : arg10.IsWhole) (arg11 : Memref sig .tc .vmem S16x65 .f32) (harg11 : arg11.IsWhole) (arg12 : Memref sig .tc .vmem S16x65 .f32) (harg12 : arg12.IsWhole) (arg13 : Memref sig .tc .vmem S16x1 .f32) (harg13 : arg13.IsWhole) (hc0 : ¬Body.cond0_0 i) (hc1 : Body.cond0_1 i)
    (x0 : Vec Ideal S16x64 .i32) (x1 : Vec Ideal S256x16x512 .f32) (xs0 : Vec Ideal S16x512x64 .f32) (xs6 : Vec Ideal S16x65 .f32) (xs7 : Vec Ideal S16x65 .f32) (xs8 : Vec Ideal S16x65 .f32) (xs9 : Vec Ideal S16x1 .f32)
    (hl : ∀ b j, lab b j < 512) (h0 : x0 = labW lab) (h1 : x1 = lpV e) (a b : L) (m : Fin 16 → ℝ≥0) (g0 : xs0 = tbl lab) (g6 : xs6 = lvec a) (g7 : xs7 = lvec b) (g8 : xs8 = vec (sk lab)) (g9 : xs9 = accV m) :
    Body.out0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 xs0 xs6 xs7 xs8 xs9 = fun _ => 0 - ∑ r : Fin 16, ell (((adv (sk lab) (pr e lab) (qr e lab) (a, b) 256).1 r 64 + (adv (sk lab) (pr e lab) (qr e lab) (a, b) 256).2 r 63) * (m r * ∏ t ∈ Finset.range 256, big e lab t r)) := by
  rw [out0_C_2_eq, pay164_id, pay165_id, h1, g0, g6, g7, g8, rowsAfter_value e lab _ _ _ _ _ _ _ _ _ _ _ _ _ _ _ _ _ _ _ _ _ _ _ _ _ _ _ _ _ hl (tblRows_hot lab), colE_value, colO_value,
    lpo_value e lab _ _ hl (tblRows_hot lab), lpb_value, big_value]
  exact pay1 (fun r => (adv (sk lab) (pr e lab) (qr e lab) (a, b) 256).1 r 64) (fun r => (adv (sk lab) (pr e lab) (qr e lab) (a, b) 256).2 r 63) (fun r => m r * ∏ t ∈ Finset.range 256, big e lab t r) _ _ _
    rfl rfl (pay160 e lab _ m g9)

end Cert.KernelIdeal.Window
end
end
-- ==== Proof.KI.Total.lean ====
/- The result of the kernel: minus the sum of the sequences' log-likelihoods, by induction over the grid points. -/
module

public import proofs.«01_k».proof.Proof.KI.Point

@[expose] public section

set_option maxRecDepth 16384

noncomputable section

namespace Cert.KernelIdeal.Window

open Idealize.ShloMosaic Idealize.ShloMosaic.TcCoe Idealize.ShloMosaic.Tactic Cert.KernelIdeal Cert.Math
open Idealize.SL Idealize.SL.Sem
open Cert.KernelIdeal.Gen (facts)
open Cert.KernelIdeal.Body Cert.KernelIdeal.Value
open scoped NNReal

variable (m : (ℓ : Loc nD τ sig) → Buf (Elt Ideal) ℓ) (c : Dev nD)
variable (e : ℕ → Fin 16 → ℕ → ℝ≥0) (lab : Fin 16 → ℕ → ℕ)

/-- The labels' block is the same at every point. -/
theorem idx0 : ∀ t : Fin cfg0.N, win0_0.index t = ![0, 0] := (by decide +kernel : ∀ t : Fin grid0.N, _)
/-- The log-probabilities' block at point `t` is the `t`-th. -/
theorem idx1 : ∀ t : Fin cfg0.N, win0_1.index t = ![t.val, 0, 0] := (by decide +kernel : ∀ t : Fin grid0.N, _)

/-- The block of labels at any point. -/
theorem labels_block (t : Fin cfg0.N) (i : S16x64.Idx) :
    iblk m c 0 t i = shapeCast S16x64 (m ((c : Thread nD τ).loc main_arg1)) Facts₀.shapeCasts_S1024_S16x64 i := by
  blk_ext [iblk, V, idx0 t]

/-- The block of log-probabilities at a point. -/
theorem probs_block (t : Fin cfg0.N) (i : S256x16x512.Idx) (h : 256 * t.val + (i 0).val < 1024) :
    iblk m c 1 t i = m ((c : Thread nD τ).loc main_arg0) (ix3 (⟨256 * t.val + (i 0).val, h⟩ : Fin 1024) (i 1) (i 2)) := by
  blk_ext [iblk, V, idx1 t]

/-- The log-probabilities from step `n` on. -/
def from' (n : ℕ) : ℕ → Fin 16 → ℕ → ℝ≥0 := fun t => e (n + t)

/-- The rows after `n` steps. -/
def rowsAt (n : ℕ) : L × L := adv (sk lab) (pr e lab) (qr e lab) start n

/-- The product of the largest entries of the first `n` steps. -/
def prodAt (n : ℕ) (r : Fin 16) : ℝ≥0 := ∏ t ∈ Finset.range n, big e lab t r

/-- The rows after 256 further steps. -/
theorem rowsAt_add (n : ℕ) :
    adv (sk lab) (pr (from' e n) lab) (qr (from' e n) lab) ((rowsAt e lab n).1, (rowsAt e lab n).2) 256 = rowsAt e lab (n + 256) :=
  (adv_add (sk lab) (pr e lab) (qr e lab) start n 256).symm

/-- The even states' rows of one sequence. -/
theorem rowsAt_fst (n : ℕ) (r : Fin 16) (j : ℕ) :
    (rowsAt e lab n).1 r j = (steps (fun i => nstep (sk lab r) (pr e lab i r) (qr e lab i r)) rows0 n).1 j :=
  rfl

/-- The odd states' rows of one sequence. -/
theorem rowsAt_snd (n : ℕ) (r : Fin 16) (j : ℕ) :
    (rowsAt e lab n).2 r j = (steps (fun i => nstep (sk lab r) (pr e lab i r) (qr e lab i r)) rows0 n).2 j :=
  rfl

/-- The product of the largest entries over 256 further steps. -/
theorem prodAt_add (n : ℕ) (r : Fin 16) :
    prodAt e lab n r * ∏ t ∈ Finset.range 256, big (from' e n) lab t r = prodAt e lab (n + 256) r :=
  (Finset.prod_range_add (fun t => big e lab t r) n 256).symm

/-- What the carried arrays hold after `n` steps. -/
def Holds (n : ℕ) (s : Vec Ideal S1x1 .f32 × Vec Ideal S16x512x64 .f32 × Vec Ideal S16x65 .f32 × Vec Ideal S16x65 .f32 × Vec Ideal S16x65 .f32 × Vec Ideal S16x1 .f32) : Prop :=
  s.2.1 = tbl lab ∧ s.2.2.1 = lvec (rowsAt e lab n).1 ∧ s.2.2.2.1 = lvec (rowsAt e lab n).2 ∧ s.2.2.2.2.1 = vec (sk lab)
    ∧ s.2.2.2.2.2 = accV (prodAt e lab n)

section
variable (hlp : ∀ (t : Fin 1024) (b : Fin 16) (k : Fin 512), m ((c : Thread nD τ).loc main_arg0) (ix3 t b k) = ell (e t.val b k.val))
  (htg : ∀ (b : Fin 16) (j : Fin 64), shapeCast S16x64 (m ((c : Thread nD τ).loc main_arg1)) Facts₀.shapeCasts_S1024_S16x64 (ix2 b j) = BitVec.ofNat 32 (lab b j.val))
  (hl : ∀ b j, lab b j < 512)
include hlp htg hl

/-- The labels' block is the labels. -/
theorem labels_eq (t : Fin cfg0.N) : iblk m c 0 t = labW lab := by
  funext i
  refine (labels_block m c t i).trans ((congrArg _ ?_).trans (htg (i 0) (i 1)))
  exact eq_ix2 i

/-- The log-probabilities' block at point `t` begins at step `256 t`. -/
theorem probs_eq (t : Fin cfg0.N) : iblk m c 1 t = lpV (from' e (256 * t.val)) := by
  funext i
  have ht : t.val < 4 := lt_of_lt_of_eq t.isLt Gen.N_0
  have hi : (i 0).val < 256 := (i 0).isLt
  exact (probs_block m c t i (by omega)).trans (hlp _ _ _)

set_option maxHeartbeats 1600000 in
/-- The buffers after the first point. -/
theorem first (h : 0 < cfg0.N) : Holds e lab 256 (outsAt0 m c 0 h) := by
  rw [outsAt0_zero, stAt0_A m c ⟨0, h⟩ junk0 rfl (by show ¬ (0 % 4 = 3); decide)]
  have h0 := labels_eq m c e lab hlp htg hl ⟨0, h⟩
  have h1 : iblk m c 1 ⟨0, h⟩ = lpV e := by
    rw [probs_eq m c e lab hlp htg hl ⟨0, h⟩]
    congr 1
    funext t
    exact congrArg e (Nat.zero_add _)
  refine ⟨?_, ?_, ?_, ?_, ?_⟩
  · exact A0 e lab c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, h⟩).mpr rfl) (fun h' => absurd ((hcond0_1 ⟨0, h⟩).mp h') (by show ¬ (0 % 4 = 3); decide)) _ _ hl h0 h1
  · exact A6 e lab c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, h⟩).mpr rfl) (fun h' => absurd ((hcond0_1 ⟨0, h⟩).mp h') (by show ¬ (0 % 4 = 3); decide)) _ _ hl h0 h1
  · exact A7 e lab c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, h⟩).mpr rfl) (fun h' => absurd ((hcond0_1 ⟨0, h⟩).mp h') (by show ¬ (0 % 4 = 3); decide)) _ _ hl h0 h1
  · exact A8 e lab c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, h⟩).mpr rfl) (fun h' => absurd ((hcond0_1 ⟨0, h⟩).mp h') (by show ¬ (0 % 4 = 3); decide)) _ _ hl h0 h1
  · exact A9 e lab c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, h⟩).mpr rfl) (fun h' => absurd ((hcond0_1 ⟨0, h⟩).mp h') (by show ¬ (0 % 4 = 3); decide)) _ _ hl h0 h1

set_option maxHeartbeats 1600000 in
/-- The buffers after a point that is neither first nor last. -/
theorem middle (n : ℕ) (h : n + 1 < cfg0.N) (hn : n + 1 < 3) (ih : Holds e lab (256 * (n + 1)) (outsAt0 m c n (Nat.lt_of_succ_lt h))) :
    Holds e lab (256 * (n + 1) + 256) (outsAt0 m c (n + 1) h) := by
  rw [outsAt0_succ, stAt0_B m c ⟨n + 1, h⟩ _ (by show ¬ ((n + 1) % 4 = 0); omega) (by show ¬ ((n + 1) % 4 = 3); omega)]
  have h0 := labels_eq m c e lab hlp htg hl ⟨n + 1, h⟩
  have h1 := probs_eq m c e lab hlp htg hl ⟨n + 1, h⟩
  obtain ⟨g0, g6, g7, g8, g9⟩ := ih
  refine ⟨g0, ?_, ?_, g8, ?_⟩
  · rw [← rowsAt_add]
    exact B6 _ lab c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h' => absurd ((hcond0_0 ⟨n + 1, h⟩).mp h') (by show ¬ ((n + 1) % 4 = 0); omega)) (fun h' => absurd ((hcond0_1 ⟨n + 1, h⟩).mp h') (by show ¬ ((n + 1) % 4 = 3); omega)) _ _ _ _ _ _ _ hl h0 h1 _ _ _ g0 g6 g7 g8 g9
  · rw [← rowsAt_add]
    exact B7 _ lab c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h' => absurd ((hcond0_0 ⟨n + 1, h⟩).mp h') (by show ¬ ((n + 1) % 4 = 0); omega)) (fun h' => absurd ((hcond0_1 ⟨n + 1, h⟩).mp h') (by show ¬ ((n + 1) % 4 = 3); omega)) _ _ _ _ _ _ _ hl h0 h1 _ _ _ g0 g6 g7 g8 g9
  · refine (B9 _ lab c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h' => absurd ((hcond0_0 ⟨n + 1, h⟩).mp h') (by show ¬ ((n + 1) % 4 = 0); omega)) (fun h' => absurd ((hcond0_1 ⟨n + 1, h⟩).mp h') (by show ¬ ((n + 1) % 4 = 3); omega)) _ _ _ _ _ _ _ hl h0 h1 _ _ _ g0 g6 g7 g8 g9).trans ?_
    exact congrArg accV (funext fun r => prodAt_add e lab _ r)

set_option maxHeartbeats 1600000 in
/-- The result's block after the last point. -/
theorem last (h : 3 < cfg0.N) (ih : Holds e lab 768 (outsAt0 m c 2 (Nat.lt_of_succ_lt h))) :
    (outsAt0 m c 3 h).1 = fun _ => 0 - ∑ r : Fin 16, ell (score e lab r) := by
  rw [outsAt0_succ, stAt0_C m c ⟨3, h⟩ _ (by show ¬ (3 % 4 = 0); decide) rfl]
  have h0 := labels_eq m c e lab hlp htg hl ⟨3, h⟩
  have h1 := probs_eq m c e lab hlp htg hl ⟨3, h⟩
  obtain ⟨g0, g6, g7, g8, g9⟩ := ih
  refine (C2 _ lab c (grid0.coords ⟨3, h⟩) (ms0_0 ⟨3, h⟩) (hs0_0 ⟨3, h⟩) (ms0_1 ⟨3, h⟩) (hs0_1 ⟨3, h⟩) (ms0_2 ⟨3, h⟩) (hs0_2 ⟨3, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h' => absurd ((hcond0_0 ⟨3, h⟩).mp h') (by show ¬ (3 % 4 = 0); decide)) ((hcond0_1 ⟨3, h⟩).mpr rfl) _ _ _ _ _ _ _ hl h0 h1 _ _ _ g0 g6 g7 g8 g9).trans ?_
  funext _
  refine congrArg (0 - ·) (Finset.sum_congr rfl fun r _ => congrArg ell ?_)
  refine Eq.trans ?_ (score_eq e lab r)
  refine congrArg₂ (· * ·) (congrArg₂ (· + ·) ?_ ?_) (prodAt_add e lab 768 r)
  · exact (congrArg (fun u : L × L => u.1 r 64) (rowsAt_add e lab 768)).trans (rowsAt_fst e lab 1024 r 64)
  · exact (congrArg (fun u : L × L => u.2 r 63) (rowsAt_add e lab 768)).trans (rowsAt_snd e lab 1024 r 63)

/-- The kernel's result: minus the sum of the sequences' log-likelihoods. -/
theorem kernel_value : G2 m c = fun _ => 0 - ∑ r : Fin 16, ell (score e lab r) := by
  have hN : 3 < cfg0.N := lt_of_lt_of_eq (by decide) Gen.N_0.symm
  rw [G2_last, ← outsAt0_sweep m c 3 hN]
  exact last m c e lab hlp htg hl hN (middle m c e lab hlp htg hl 1 _ (by decide) (middle m c e lab hlp htg hl 0 _ (by decide)
    (first m c e lab hlp htg hl _)))

end

end Cert.KernelIdeal.Window
end
end
-- ==== Proof.Math.Inputs.lean ====
/- What the precondition says of the inputs: no log-probability is +∞, and every label is a class other than the blank. -/
module

public import proofs.«01_k».proof.Pre_pre_inputs
public import proofs.«01_k».proof.Proof.Math.Scale
public import Idealize.ShloMosaic.Lib.ReduceAll
public import Idealize.ShloMosaic.Lib.Affine
public import Idealize.ShloMosaic.Lib.Pointwise

@[expose] public section

noncomputable section

namespace Cert.Math

open Idealize.ShloMosaic
open Cert.Pre_pre_inputs
open scoped NNReal

/-- The shapes the predicate's operations take fit. -/
theorem pre_facts : Cert.Pre_pre_inputs.Facts where
  bcast_S_S1024x16x512 := by decide
  reducesTo_S1024x16x512_S_d0_1_2 := by decide
  h_S_ := by decide
  bcast_S_S1024 := by decide
  reducesTo_S1024_S_d0 := by decide

/-- The bit pattern of +∞ denotes the top extended real. -/
theorem bits_inf : Ideal.ofBits .f32 0x7F800000#32 = ⊤ := by simp [Ideal.ofBits, Ideal.ieee]

/-- A scalar has one index. -/
instance : Subsingleton S_.Idx := ⟨fun a b => funext fun k => k.elim0⟩

/-- A word whose signed value lies between 1 and 511 is that number. -/
theorem word_range (x : BitVec 32) (h1 : (1#32 : BitVec 32).toInt ≤ x.toInt) (h2 : x.toInt < (512#32 : BitVec 32).toInt) :
    1 ≤ x.toNat ∧ x.toNat < 512 := by
  rw [show (1#32 : BitVec 32).toInt = 1 by decide] at h1
  rw [show (512#32 : BitVec 32).toInt = 512 by decide] at h2
  rw [BitVec.toInt_eq_toNat_cond] at h1 h2
  have := x.isLt
  split at h1 <;> omega

/-- The precondition, read at each element. -/
theorem pre_reads [Cert.Pre_pre_inputs.Facts] (lp : FVec Ideal S1024x16x512 .f32) (tg : IVec S1024 32) (il tl : IVec S16 32)
    (h : Cert.Pre_pre_inputs.fn (F := Ideal) lp tg il tl = fun _ => 1#1) :
    (∀ i, lp i < ⊤) ∧ ∀ i, 1 ≤ (tg i).toNat ∧ (tg i).toNat < 512 := by
  have h0 := congrFun h (Shape.Idx.first Facts.h_S_)
  obtain ⟨hab, hc⟩ := IntOp.andi_eq_one.mp h0
  obtain ⟨ha, hb⟩ := IntOp.andi_eq_one.mp hab
  constructor
  · intro i
    have hi := Host.reduce_andi_all _ _ _ _ _ ha i
    have h2 : Ideal.cmp .olt (lp i) (Ideal.ofBits .f32 0x7F800000#32) = 1#1 := hi
    rw [bits_inf] at h2
    by_contra hn
    simp [Ideal.cmp, hn] at h2
  · intro i
    have h1 := Host.reduce_andi_all _ _ _ _ _ hb i
    have h2 := Host.reduce_andi_all _ _ _ _ _ hc i
    exact word_range (tg i) (IntOp.cmpi_sge.mp h1) (IntOp.cmpi_slt.mp h2)

/-- Inputs the precondition admits are logarithms of non-negative reals and words of labels between 1 and 511. -/
theorem inputs_exist (lp : FVec Ideal S1024x16x512 .f32) (tg : IVec S1024 32) (hlp : ∀ i, lp i < ⊤)
    (htg : ∀ i, 1 ≤ (tg i).toNat ∧ (tg i).toNat < 512) :
    ∃ (e : ℕ → Fin 16 → ℕ → ℝ≥0) (lab : Fin 16 → ℕ → ℕ),
      (∀ (t : Fin 1024) (b : Fin 16) (k : Fin 512), lp (ix3 t b k) = ell (e t.val b k.val))
      ∧ (∀ (hs : S1024.ShapeCasts ⟨2, ![16, 64]⟩) (b : Fin 16) (j : Fin 64), shapeCast ⟨2, ![16, 64]⟩ tg hs (ix2 b j) = BitVec.ofNat 32 (lab b j.val))
      ∧ (∀ b j, lab b j < 512) ∧ ∀ b j, 1 ≤ lab b j := by
  have hx : ∀ (b : Fin 16) (j : ℕ), b.val * 64 + j % 64 < 1024 := fun b j => by have := b.isLt; omega
  choose f hf using fun i => exists_ell (hlp i)
  refine ⟨fun t b k => if h : t < 1024 ∧ k < 512 then f (ix3 ⟨t, h.1⟩ b ⟨k, h.2⟩) else 0,
    fun b j => (tg (ix1 ⟨b.val * 64 + j % 64, hx b j⟩)).toNat, ?_, ?_, fun b j => (htg _).2, fun b j => (htg _).1⟩
  · intro t b k
    show _ = ell (dite (t.val < 1024 ∧ k.val < 512) (fun h => f (ix3 ⟨t.val, h.1⟩ b ⟨k.val, h.2⟩)) fun _ => 0)
    rw [dif_pos ⟨t.isLt, k.isLt⟩]
    exact hf _
  · intro hs b j
    rw [BitVec.ofNat_toNat, BitVec.setWidth_eq]
    pointwise []
    exact congrArg (fun q => tg (ix1 q)) (Fin.ext (by show b.val * 64 + j.val = b.val * 64 + j.val % 64; rw [Nat.mod_eq_of_lt j.isLt]))

end Cert.Math

end
-- ==== Proof.RI.Terms.lean ====
/- The terms of the reference's host operations, as functions of their operands: the extended labels, the mask of the allowed
   skips, one row of log-probabilities taken at the extended labels, one trip of the recursion and the result; and that the
   loop's entry, one trip and the result are these. -/
module

public import proofs.«01_k».proof.Proof.Gen.ReferenceIdeal.Run
public import Idealize.ShloMosaic.Lib.Pointwise
public import proofs.«01_k».proof.Proof.Math.Problem

@[expose] public section

set_option maxRecDepth 16384

noncomputable section

namespace Cert.ReferenceIdeal.Terms

open Idealize.ShloMosaic Idealize.ShloMosaic.TcCoe Idealize.ShloMosaic.StableHlo
open Cert.ReferenceIdeal Cert.ReferenceIdeal.Facts₀ Cert.ReferenceIdeal.Value

variable {F : FTy → Type} [FloatOps F]

/-- The extended labels: blanks and labels in turn, one blank more at the end. -/
def extT (tg : IVec S1024 32) : IVec S16x129 32 :=
  concatenate S16x129 1 [⟨S16x128, shapeCast S16x128 (concatenate S16x64x2 2
      [⟨S16x64x1, broadcastInDim S16x64x1 ![0, 1] bcast_S16x64_S16x64x1_0_1 (broadcastInDim S16x64 ![] bcast_S_S16x64 (constantI S_ 32 0#32))⟩,
       ⟨S16x64x1, broadcastInDim S16x64x1 ![0, 1] bcast_S16x64_S16x64x1_0_1 (shapeCast S16x64 tg shapeCasts_S1024_S16x64)⟩]
      concatenates_S16x64x1_S16x64x1_S16x64x2_d2) shapeCasts_S16x64x2_S16x128⟩,
    ⟨S16x1, broadcastInDim S16x1 ![] bcast_S_S16x1 (constantI S_ 32 0#32)⟩] concatenates_S16x128_S16x1_S16x129_d1

/-- Where a place may be reached from two places before. -/
def skipT (x : IVec S16x129 32) : IVec S16x129 1 :=
  concatenate S16x129 1 [⟨S16x2, broadcastInDim S16x2 ![] bcast_S_S16x2 (constantI S_ 1 0#1)⟩,
    ⟨S16x127, andi (cmpi .ne (extractStridedSlice S16x127 ![0, 2] x slices_S16x129_S16x127_0_2) (broadcastInDim S16x127 ![] bcast_S_S16x127 (constantI S_ 32 0#32)))
      (cmpi .ne (extractStridedSlice S16x127 ![0, 2] x slices_S16x129_S16x127_0_2) (extractStridedSlice S16x127 ![0, 0] x slices_S16x129_S16x127_0_0))⟩]
    concatenates_S16x2_S16x127_S16x129_d1

/-- Indices below zero moved up by the number of classes. -/
def normT (x : IVec S16x129 32) : IVec S16x129x1 32 :=
  shapeCast S16x129x1 (select (cmpi .slt x (broadcastInDim S16x129 ![] bcast_S_S16x129 (constantI S_ 32 0#32)))
    (addi x (broadcastInDim S16x129 ![] bcast_S_S16x129 (constantI S_ 32 512#32))) x) shapeCasts_S16x129_S16x129x1

/-- One row of log-probabilities read at indices already moved up, where these are classes. -/
def pickT (y : FVec F S16x512 .f32) (n : IVec S16x129x1 32) : FVec F S16x129 .f32 :=
  select (Host.reduce IntOp.andi (andi (cmpi .sge n (broadcastInDim S16x129x1 ![] bcast_S_S16x129x1 (constantI S_ 32 0#32)))
      (cmpi .sle n (broadcastInDim S16x129x1 ![0, 1, 2] bcast_S1x1x1_S16x129x1_0_1_2 (broadcastInDim S1x1x1 ![2] bcast_S1_S1x1x1_2 (constantI S1 32 511#32)))))
      (constantI S_ 1 1#1) reducesTo_S16x129x1_S16x129_d2 h_S_)
    (Host.gather gather_S16x512_S16x129x1_S16x129_n_1_0_0_1_2_11 y n)
    (broadcastInDim S16x129 ![] bcast_S_S16x129 (constant S_ .f32 0x7FC00000#32))

/-- One row of log-probabilities taken at the indices. -/
def takeT (y : FVec F S16x512 .f32) (x : IVec S16x129 32) : FVec F S16x129 .f32 := pickT y (normT x)

/-- The first step's log-probabilities. -/
def firstT (lp : FVec F S1024x16x512 .f32) : FVec F S16x512 .f32 :=
  shapeCast S16x512 (extractStridedSlice S1x16x512 ![0, 0, 0] lp slices_S1024x16x512_S1x16x512_0_0_0) shapeCasts_S1x16x512_S16x512

/-- The later steps' log-probabilities. -/
def restT (lp : FVec F S1024x16x512 .f32) : FVec F S1023x16x512 .f32 :=
  extractStridedSlice S1023x16x512 ![1, 0, 0] lp slices_S1024x16x512_S1023x16x512_1_0_0

/-- The row the recursion starts from. -/
def startT (y : FVec F S16x129 .f32) : FVec F S16x129 .f32 :=
  concatenate S16x129 1 [⟨S16x2, extractStridedSlice S16x2 ![0, 0] y slices_S16x129_S16x2_0_0⟩,
    ⟨S16x127, broadcastInDim S16x127 ![] bcast_S_S16x127 (constant S_ .f32 0xFF800000#32)⟩] concatenates_S16x2_S16x127_S16x129_d1

/-- The padding on the left of a row moved by one place. -/
def padOne : FVec F S16x1 .f32 := broadcastInDim S16x1 ![] bcast_S_S16x1 (constant S_ .f32 0xFF800000#32)
/-- The padding on the left of a row moved by two places. -/
def padTwo : FVec F S16x2 .f32 := broadcastInDim S16x2 ![] bcast_S_S16x2 (constant S_ .f32 0xFF800000#32)

/-- A row moved by one place. -/
def oneT (p : FVec F S16x1 .f32) (a : FVec F S16x129 .f32) : FVec F S16x129 .f32 :=
  concatenate S16x129 1 [⟨S16x1, p⟩, ⟨S16x128, extractStridedSlice S16x128 ![0, 0] a slices_S16x129_S16x128_0_0⟩] concatenates_S16x1_S16x128_S16x129_d1

/-- A row moved by two places, where that is allowed. -/
def twoT (k : IVec S16x129 1) (p : FVec F S16x2 .f32) (a : FVec F S16x129 .f32) : FVec F S16x129 .f32 :=
  select k (concatenate S16x129 1 [⟨S16x2, p⟩, ⟨S16x127, extractStridedSlice S16x127 ![0, 0] a slices_S16x129_S16x127_0_0⟩] concatenates_S16x2_S16x127_S16x129_d1)
    (broadcastInDim S16x129 ![] bcast_S_S16x129 (constant S_ .f32 0xFF800000#32))

/-- The largest of three rows, zero where all are least. -/
def largeT (a b d : FVec F S16x129 .f32) : FVec F S16x129 .f32 :=
  select (cmpf .ogt (maximumf (maximumf a b) d) (broadcastInDim S16x129 ![] bcast_S_S16x129 (constant S_ .f32 0xFF800000#32))) (maximumf (maximumf a b) d)
    (broadcastInDim S16x129 ![] bcast_S_S16x129 (constant S_ .f32 0x00000000#32))

/-- The logarithm of the sum of the exponentials of three rows, `g` taken out. -/
def lseT (g a b d : FVec F S16x129 .f32) : FVec F S16x129 .f32 :=
  addf g (Host.log (addf (addf (Host.exp (subf a g)) (Host.exp (subf b g))) (Host.exp (subf d g))))

/-- One later step's log-probabilities. -/
def sliceT (lp : FVec F S1023x16x512 .f32) (n : IVec S_ 32) : FVec F S16x512 .f32 :=
  shapeCast S16x512 (Host.dynamicSlice S1x16x512 lp
    (fun k => ((![n, constantI S_ 32 0#32, constantI S_ 32 0#32] : Fin 3 → (⟨S_, .i32⟩ : BufTy).Contents (Elt F)) k (Shape.Idx.first h_S_)).toInt)
    sliceFits_S1023x16x512_S1x16x512) shapeCasts_S1x16x512_S16x512

/-- One trip: the next row of the recursion. -/
def tripT (y : FVec F S16x129 .f32) (k : IVec S16x129 1) (p : FVec F S16x1 .f32) (p' : FVec F S16x2 .f32) (a : FVec F S16x129 .f32) : FVec F S16x129 .f32 :=
  addf (lseT (largeT a (oneT p a) (twoT k p' a)) a (oneT p a) (twoT k p' a)) y

/-- The last place's column. -/
def lastT (a : FVec F S16x129 .f32) : FVec F S16 .f32 := shapeCast S16 (extractStridedSlice S16x1 ![0, 128] a slices_S16x129_S16x1_0_128) shapeCasts_S16x1_S16
/-- The column before it. -/
def prevT (a : FVec F S16x129 .f32) : FVec F S16 .f32 := shapeCast S16 (extractStridedSlice S16x1 ![0, 127] a slices_S16x129_S16x1_0_127) shapeCasts_S16x1_S16

/-- The larger of two columns, zero where both are least. -/
def guardT (x y : FVec F S16 .f32) : FVec F S16 .f32 :=
  select (cmpf .ogt (maximumf x y) (broadcastInDim S16 ![] bcast_S_S16 (constant S_ .f32 0xFF800000#32))) (maximumf x y) (broadcastInDim S16 ![] bcast_S_S16 (constant S_ .f32 0x00000000#32))

/-- The sequences' log-likelihoods. -/
def likeT (x y : FVec F S16 .f32) : FVec F S16 .f32 :=
  addf (guardT x y) (Host.log (addf (Host.exp (subf x (guardT x y))) (Host.exp (subf y (guardT x y)))))

/-- Minus their sum. -/
def totalT (x : FVec F S16 .f32) : FVec F S1x1 .f32 :=
  shapeCast S1x1 (Host.negf (Host.reduceAdd x (constant S_ .f32 0x00000000#32) reducesTo_S16_S_d0 h_S_)) shapeCasts_S_S1x1

/-- The result, of the last row of the recursion. -/
theorem out_eq (V0 : Valuation τ sig (Elt F)) :
    out_main_v44 V0 = totalT (likeT (lastT (V0 (Proc.devRef .tc main_v26_6))) (prevT (V0 (Proc.devRef .tc main_v26_6)))) := rfl

/-- One trip, of what is carried. -/
theorem trip_eq (V0 : Valuation τ sig (Elt F)) :
    step_main_v26_6 V0 = tripT (takeT (sliceT (V0 (Proc.devRef .tc main_v26_0)) (V0 (Proc.devRef .tc main_v26_5))) (V0 (Proc.devRef .tc main_v26_1)))
      (V0 (Proc.devRef .tc main_v26_4)) (V0 (Proc.devRef .tc main_v26_2)) (V0 (Proc.devRef .tc main_v26_3)) (V0 (Proc.devRef .tc main_v26_6)) := rfl

end Cert.ReferenceIdeal.Terms
end
end
-- ==== Proof.RI.Entry.lean ====
/- What the reference's loop starts from: the operations before it read in four runs, each naming what a later one reads again. -/
module

public import proofs.«01_k».proof.Proof.RI.Terms

@[expose] public section

set_option maxRecDepth 16384

noncomputable section

namespace Cert.ReferenceIdeal.Terms

open Idealize.ShloMosaic Idealize.ShloMosaic.TcCoe Idealize.ShloMosaic.StableHlo
open Cert.ReferenceIdeal.Gen (hostOps0 hostOps0_1 hostOps0_2)
open Cert.ReferenceIdeal Cert.ReferenceIdeal.Facts₀ Cert.ReferenceIdeal.Value

variable {F : FTy → Type} [FloatOps F]

/-- The operations that make the extended labels. -/
abbrev extOps : List (HloOp τ sig (Elt F)) :=
  [ StableHlo.reshape main_arg1 main_v0 (rfl : (.i32 : EltTy) = .i32) shapeCasts_S1024_S16x64,
    StableHlo.nullary main_c (constantI S_ 32 0#32),
    StableHlo.unary main_c main_v1 (broadcastInDim S16x64 ![] bcast_S_S16x64 : (⟨S_, .i32⟩ : BufTy).Contents (Elt F) → (⟨S16x64, .i32⟩ : BufTy).Contents (Elt F)),
    StableHlo.unary main_v1 main_v2 (broadcastInDim S16x64x1 ![0, 1] bcast_S16x64_S16x64x1_0_1 : (⟨S16x64, .i32⟩ : BufTy).Contents (Elt F) → (⟨S16x64x1, .i32⟩ : BufTy).Contents (Elt F)),
    StableHlo.unary main_v0 main_v3 (broadcastInDim S16x64x1 ![0, 1] bcast_S16x64_S16x64x1_0_1 : (⟨S16x64, .i32⟩ : BufTy).Contents (Elt F) → (⟨S16x64x1, .i32⟩ : BufTy).Contents (Elt F)),
    StableHlo.binary main_v2 main_v3 main_v4 ((fun a b => concatenate S16x64x2 2 [⟨S16x64x1, a⟩, ⟨S16x64x1, b⟩] concatenates_S16x64x1_S16x64x1_S16x64x2_d2) : (⟨S16x64x1, .i32⟩ : BufTy).Contents (Elt F) → (⟨S16x64x1, .i32⟩ : BufTy).Contents (Elt F) → (⟨S16x64x2, .i32⟩ : BufTy).Contents (Elt F)),
    StableHlo.reshape main_v4 main_v5 (rfl : (.i32 : EltTy) = .i32) shapeCasts_S16x64x2_S16x128,
    StableHlo.nullary main_c_0 (constantI S_ 32 0#32),
    StableHlo.unary main_c_0 main_v6 (broadcastInDim S16x1 ![] bcast_S_S16x1 : (⟨S_, .i32⟩ : BufTy).Contents (Elt F) → (⟨S16x1, .i32⟩ : BufTy).Contents (Elt F)),
    StableHlo.binary main_v5 main_v6 main_v7 ((fun a b => concatenate S16x129 1 [⟨S16x128, a⟩, ⟨S16x1, b⟩] concatenates_S16x128_S16x1_S16x129_d1) : (⟨S16x128, .i32⟩ : BufTy).Contents (Elt F) → (⟨S16x1, .i32⟩ : BufTy).Contents (Elt F) → (⟨S16x129, .i32⟩ : BufTy).Contents (Elt F)) ]

/-- The operations that make the mask of the skips and the first step's log-probabilities. -/
abbrev skipOps : List (HloOp τ sig (Elt F)) :=
  [ StableHlo.nullary main_c_1 (constantI S_ 1 0#1),
    StableHlo.unary main_c_1 main_v8 (broadcastInDim S16x2 ![] bcast_S_S16x2 : (⟨S_, .i1⟩ : BufTy).Contents (Elt F) → (⟨S16x2, .i1⟩ : BufTy).Contents (Elt F)),
    StableHlo.unary main_v7 main_v9 ((extractStridedSlice S16x127 ![0, 2] · slices_S16x129_S16x127_0_2) : (⟨S16x129, .i32⟩ : BufTy).Contents (Elt F) → (⟨S16x127, .i32⟩ : BufTy).Contents (Elt F)),
    StableHlo.nullary main_c_2 (constantI S_ 32 0#32),
    StableHlo.unary main_c_2 main_v10 (broadcastInDim S16x127 ![] bcast_S_S16x127 : (⟨S_, .i32⟩ : BufTy).Contents (Elt F) → (⟨S16x127, .i32⟩ : BufTy).Contents (Elt F)),
    StableHlo.binary main_v9 main_v10 main_v11 (cmpi .ne : (⟨S16x127, .i32⟩ : BufTy).Contents (Elt F) → (⟨S16x127, .i32⟩ : BufTy).Contents (Elt F) → (⟨S16x127, .i1⟩ : BufTy).Contents (Elt F)),
    StableHlo.unary main_v7 main_v12 ((extractStridedSlice S16x127 ![0, 2] · slices_S16x129_S16x127_0_2) : (⟨S16x129, .i32⟩ : BufTy).Contents (Elt F) → (⟨S16x127, .i32⟩ : BufTy).Contents (Elt F)),
    StableHlo.unary main_v7 main_v13 ((extractStridedSlice S16x127 ![0, 0] · slices_S16x129_S16x127_0_0) : (⟨S16x129, .i32⟩ : BufTy).Contents (Elt F) → (⟨S16x127, .i32⟩ : BufTy).Contents (Elt F)),
    StableHlo.binary main_v12 main_v13 main_v14 (cmpi .ne : (⟨S16x127, .i32⟩ : BufTy).Contents (Elt F) → (⟨S16x127, .i32⟩ : BufTy).Contents (Elt F) → (⟨S16x127, .i1⟩ : BufTy).Contents (Elt F)),
    StableHlo.binary main_v11 main_v14 main_v15 (andi : (⟨S16x127, .i1⟩ : BufTy).Contents (Elt F) → (⟨S16x127, .i1⟩ : BufTy).Contents (Elt F) → (⟨S16x127, .i1⟩ : BufTy).Contents (Elt F)),
    StableHlo.binary main_v8 main_v15 main_v16 ((fun a b => concatenate S16x129 1 [⟨S16x2, a⟩, ⟨S16x127, b⟩] concatenates_S16x2_S16x127_S16x129_d1) : (⟨S16x2, .i1⟩ : BufTy).Contents (Elt F) → (⟨S16x127, .i1⟩ : BufTy).Contents (Elt F) → (⟨S16x129, .i1⟩ : BufTy).Contents (Elt F)),
    StableHlo.unary main_arg0 main_v17 ((extractStridedSlice S1x16x512 ![0, 0, 0] · slices_S1024x16x512_S1x16x512_0_0_0) : (⟨S1024x16x512, .f32⟩ : BufTy).Contents (Elt F) → (⟨S1x16x512, .f32⟩ : BufTy).Contents (Elt F)),
    StableHlo.reshape main_v17 main_v18 (rfl : (.f32 : EltTy) = .f32) shapeCasts_S1x16x512_S16x512 ]

/-- The operations that move indices below zero up. -/
abbrev normOps : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S16x129, .i32⟩) (broadcastInDim S16x129 ![] bcast_S_S16x129),
    StableHlo.TRef.binary (.of main_v7 : StableHlo.TRef sig ⟨S16x129, .i32⟩) (.of main_call0_v0 : StableHlo.TRef sig ⟨S16x129, .i32⟩) (.of main_call0_v1 : StableHlo.TRef sig ⟨S16x129, .i1⟩) (cmpi .slt),
    StableHlo.TRef.nullary (.of main_call0_c_0 : StableHlo.TRef sig ⟨S_, .i32⟩) (constantI S_ 32 512#32),
    StableHlo.TRef.unary (.of main_call0_c_0 : StableHlo.TRef sig ⟨S_, .i32⟩) (.of main_call0_v2 : StableHlo.TRef sig ⟨S16x129, .i32⟩) (broadcastInDim S16x129 ![] bcast_S_S16x129),
    StableHlo.TRef.binary (.of main_v7 : StableHlo.TRef sig ⟨S16x129, .i32⟩) (.of main_call0_v2 : StableHlo.TRef sig ⟨S16x129, .i32⟩) (.of main_call0_v3 : StableHlo.TRef sig ⟨S16x129, .i32⟩) addi,
    StableHlo.TRef.ternary (.of main_call0_v1 : StableHlo.TRef sig ⟨S16x129, .i1⟩) (.of main_call0_v3 : StableHlo.TRef sig ⟨S16x129, .i32⟩) (.of main_v7 : StableHlo.TRef sig ⟨S16x129, .i32⟩) (.of main_call0_v4 : StableHlo.TRef sig ⟨S16x129, .i32⟩) select,
    StableHlo.TRef.reshape (.of main_call0_v4 : StableHlo.TRef sig ⟨S16x129, .i32⟩) (.of main_call0_v5 : StableHlo.TRef sig ⟨S16x129x1, .i32⟩) (rfl : (.i32 : EltTy) = .i32) shapeCasts_S16x129_S16x129x1 ]

/-- The operations that take the log-probabilities at the indices. -/
abbrev takeOps : List (HloOp τ sig (Elt F)) :=
  [ StableHlo.TRef.nullary (.of main_call0_c_1 : StableHlo.TRef sig ⟨S1, .i32⟩) (constantI S1 32 511#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S16x129x1, .i32⟩) (broadcastInDim S16x129x1 ![] bcast_S_S16x129x1),
    StableHlo.TRef.binary (.of main_call0_v5 : StableHlo.TRef sig ⟨S16x129x1, .i32⟩) (.of main_call0_v6 : StableHlo.TRef sig ⟨S16x129x1, .i32⟩) (.of main_call0_v7 : StableHlo.TRef sig ⟨S16x129x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S16x129x1, .i32⟩) (broadcastInDim S16x129x1 ![0, 1, 2] bcast_S1x1x1_S16x129x1_0_1_2),
    StableHlo.TRef.binary (.of main_call0_v5 : StableHlo.TRef sig ⟨S16x129x1, .i32⟩) (.of main_call0_v9 : StableHlo.TRef sig ⟨S16x129x1, .i32⟩) (.of main_call0_v10 : StableHlo.TRef sig ⟨S16x129x1, .i1⟩) (cmpi .sle),
    StableHlo.TRef.binary (.of main_call0_v7 : StableHlo.TRef sig ⟨S16x129x1, .i1⟩) (.of main_call0_v10 : StableHlo.TRef sig ⟨S16x129x1, .i1⟩) (.of main_call0_v11 : StableHlo.TRef sig ⟨S16x129x1, .i1⟩) andi,
    StableHlo.TRef.nullary (.of main_call0_c_3 : StableHlo.TRef sig ⟨S_, .i1⟩) (constantI S_ 1 1#1),
    StableHlo.TRef.binary (.of main_call0_v11 : StableHlo.TRef sig ⟨S16x129x1, .i1⟩) (.of main_call0_c_3 : StableHlo.TRef sig ⟨S_, .i1⟩) (.of main_call0_v12 : StableHlo.TRef sig ⟨S16x129, .i1⟩) (fun x v => Host.reduce IntOp.andi x v reducesTo_S16x129x1_S16x129_d2 h_S_),
    StableHlo.TRef.binary (.of main_v18 : StableHlo.TRef sig ⟨S16x512, .f32⟩) (.of main_call0_v5 : StableHlo.TRef sig ⟨S16x129x1, .i32⟩) (.of main_call0_v13 : StableHlo.TRef sig ⟨S16x129, .f32⟩) (fun x i => Host.gather gather_S16x512_S16x129x1_S16x129_n_1_0_0_1_2_11 x i),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v14 : StableHlo.TRef sig ⟨S16x129, .f32⟩) (broadcastInDim S16x129 ![] bcast_S_S16x129),
    StableHlo.TRef.ternary (.of main_call0_v12 : StableHlo.TRef sig ⟨S16x129, .i1⟩) (.of main_call0_v13 : StableHlo.TRef sig ⟨S16x129, .f32⟩) (.of main_call0_v14 : StableHlo.TRef sig ⟨S16x129, .f32⟩) (.of main_v19 : StableHlo.TRef sig ⟨S16x129, .f32⟩) select ]

/-- The first run of operations, cut in two. -/
theorem ops_cut : (hostOps0 : List (HloOp τ sig (Elt F))) = extOps ++ skipOps := rfl
/-- The second run of operations, cut in two. -/
theorem ops_cut' : (hostOps0_1 : List (HloOp τ sig (Elt F))) = normOps ++ takeOps := rfl

variable (V : Valuation τ sig (Elt F))

set_option maxHeartbeats 2000000 in
/-- The first operations leave the extended labels. -/
theorem ext_read : after extOps V (Proc.devRef .tc main_v7) = extT (V (Proc.devRef .tc main_arg1)) := by
  simp only [extOps]
  after_results_entrywise []
  all_goals rfl

/-- The first operations keep the log-probabilities. -/
theorem ext_keep : after extOps V (Proc.devRef .tc main_arg0) = V (Proc.devRef .tc main_arg0) := by
  simp only [extOps]
  after_results_entrywise []

set_option maxHeartbeats 2000000 in
/-- The next operations leave the mask of the skips. -/
theorem skip_read : after skipOps V (Proc.devRef .tc main_v16) = skipT (V (Proc.devRef .tc main_v7)) := by
  simp only [skipOps]
  after_results_entrywise []
  all_goals rfl

set_option maxHeartbeats 2000000 in
/-- The next operations leave the first step's log-probabilities. -/
theorem first_read : after skipOps V (Proc.devRef .tc main_v18) = firstT (V (Proc.devRef .tc main_arg0)) := by
  simp only [skipOps]
  after_results_entrywise []
  all_goals rfl

/-- The next operations keep the extended labels. -/
theorem skip_keep : after skipOps V (Proc.devRef .tc main_v7) = V (Proc.devRef .tc main_v7) := by
  simp only [skipOps]
  after_results_entrywise []

set_option maxHeartbeats 2000000 in
/-- The operations before the gather leave its start indices. -/
theorem norm_read : after normOps V (Proc.devRef .tc main_call0_v5) = normT (V (Proc.devRef .tc main_v7)) := by
  simp only [normOps]
  after_results_entrywise []
  all_goals rfl

/-- They keep the first step's log-probabilities. -/
theorem norm_keep : after normOps V (Proc.devRef .tc main_v18) = V (Proc.devRef .tc main_v18) := by
  simp only [normOps]
  after_results_entrywise []

/-- They keep the mask. -/
theorem norm_keep_skip : after normOps V (Proc.devRef .tc main_v16) = V (Proc.devRef .tc main_v16) := by
  simp only [normOps]
  after_results_entrywise []

/-- They keep the extended labels. -/
theorem norm_keep_ext : after normOps V (Proc.devRef .tc main_v7) = V (Proc.devRef .tc main_v7) := by
  simp only [normOps]
  after_results_entrywise []

set_option maxHeartbeats 2000000 in
/-- The operations of the gather leave the row taken. -/
theorem take_read : after takeOps V (Proc.devRef .tc main_v19) = pickT (V (Proc.devRef .tc main_v18)) (V (Proc.devRef .tc main_call0_v5)) := by
  simp only [takeOps]
  after_results_entrywise []
  all_goals rfl

/-- They keep the mask. -/
theorem take_keep_skip : after takeOps V (Proc.devRef .tc main_v16) = V (Proc.devRef .tc main_v16) := by
  simp only [takeOps]
  after_results_entrywise []

set_option maxHeartbeats 2000000 in
/-- The last operations pass the mask to the loop. -/
theorem last_skip : after hostOps0_2 V (Proc.devRef .tc main_v26_4) = (V (Proc.devRef .tc main_v16)) := by
  simp only [hostOps0_2]
  after_results_entrywise []
  all_goals rfl

set_option maxHeartbeats 2000000 in
/-- The last operations pass the loop its first row. -/
theorem last_start : after hostOps0_2 V (Proc.devRef .tc main_v26_6) = startT (V (Proc.devRef .tc main_v19)) := by
  simp only [hostOps0_2]
  after_results_entrywise []
  all_goals rfl

variable (m : (ℓ : Loc nD τ sig) → Buf (Elt F) ℓ) (c : Dev nD)

set_option maxHeartbeats 2000000 in
/-- The loop starts with the later steps' log-probabilities. -/
theorem entry_rest : entryContents preI m c (Proc.devRef .tc main_v26_0) = restT (m ((c.tc : Thread nD τ).loc main_arg0)) := by
  simp only [entryContents, afterL_cons, afterL_nil]
  after_results_entrywise []

set_option maxHeartbeats 2000000 in
/-- The loop starts with the extended labels. -/
theorem entry_ext : entryContents preI m c (Proc.devRef .tc main_v26_1) = extT (m ((c.tc : Thread nD τ).loc main_arg1)) := by
  simp only [entryContents, afterL_cons, afterL_nil]
  after_results_entrywise []

set_option maxHeartbeats 2000000 in
/-- The loop starts with the padding of a row moved by one place. -/
theorem entry_one : entryContents preI m c (Proc.devRef .tc main_v26_2) = (padOne : FVec F S16x1 .f32) := by
  simp only [entryContents, afterL_cons, afterL_nil]
  after_results_entrywise []

set_option maxHeartbeats 2000000 in
/-- The loop starts with the padding of a row moved by two places. -/
theorem entry_two : entryContents preI m c (Proc.devRef .tc main_v26_3) = (padTwo : FVec F S16x2 .f32) := by
  simp only [entryContents, afterL_cons, afterL_nil]
  after_results_entrywise []

/-- The loop starts with the mask of the allowed skips. -/
theorem entry_skip : entryContents preI m c (Proc.devRef .tc main_v26_4) = skipT (extT (m ((c.tc : Thread nD τ).loc main_arg1))) := by
  simp only [entryContents, afterL_cons, afterL_nil, ops_cut, ops_cut', after_append]
  rw [last_skip, take_keep_skip, norm_keep_skip, skip_read, ext_read]

/-- The loop starts from the first step's row. -/
theorem entry_start : entryContents preI m c (Proc.devRef .tc main_v26_6)
    = startT (takeT (firstT (m ((c.tc : Thread nD τ).loc main_arg0))) (extT (m ((c.tc : Thread nD τ).loc main_arg1)))) := by
  simp only [entryContents, afterL_cons, afterL_nil, ops_cut, ops_cut', after_append]
  rw [last_start, take_read, norm_read, norm_keep, first_read, skip_keep, ext_read, ext_keep]
  rfl

end Cert.ReferenceIdeal.Terms
end
end
-- ==== Proof.RI.TakeValue.lean ====
/- The values of the reference's integer operations: the extended labels, the mask of the skips, and a row taken at the extended
   labels. -/
module

public import proofs.«01_k».proof.Proof.RI.Terms
public import Idealize.ShloMosaic.Lib.ReduceAll
public import Idealize.ShloMosaic.Lib.DynamicIndex

@[expose] public section

set_option maxRecDepth 16384

noncomputable section

namespace Cert.ReferenceIdeal.Terms

open Idealize.ShloMosaic Idealize.ShloMosaic.TcCoe
open Cert.ReferenceIdeal Cert.ReferenceIdeal.Facts₀ Cert.Math
open scoped NNReal

variable (lab : Fin 16 → ℕ → ℕ)

/-- The extended labels as words. -/
def extW : IVec S16x129 32 := fun i => BitVec.ofNat 32 (ext lab (i 0) (i 1).val)

/-- An extended label is a class. -/
theorem ext_lt (hl : ∀ b j, lab b j < 512) (b : Fin 16) (σ : ℕ) : ext lab b σ < 512 := by
  unfold ext; split
  · decide
  · exact hl _ _

/-- A class is not negative as a word. -/
theorem slt_zero : ∀ n : ℕ, n < 512 → IntOp.cmpi .slt (BitVec.ofNat 32 n) 0#32 = 0#1 := by decide +kernel
/-- A class is at least zero as a word. -/
theorem sge_zero : ∀ n : ℕ, n < 512 → IntOp.cmpi .sge (BitVec.ofNat 32 n) 0#32 = 1#1 := by decide +kernel
/-- A class is at most 511 as a word. -/
theorem sle_top : ∀ n : ℕ, n < 512 → IntOp.cmpi .sle (BitVec.ofNat 32 n) 511#32 = 1#1 := by decide +kernel
/-- A class read signed from its word is itself. -/
theorem toInt_small : ∀ n : ℕ, n < 512 → (BitVec.ofNat 32 n).toInt = n := by decide +kernel

/-- A class is not moved up. -/
theorem normed (n : ℕ) (h : n < 512) :
    Scalar.select (IntOp.cmpi .slt (BitVec.ofNat 32 n) 0#32) (IntOp.addi (BitVec.ofNat 32 n) 512#32) (BitVec.ofNat 32 n) = BitVec.ofNat 32 n := by
  rw [slt_zero n h]
  rfl

/-- The start indices are the extended labels. -/
theorem norm_value (hl : ∀ b j, lab b j < 512) (i : S16x129x1.Idx) :
    normT (extW lab) i = BitVec.ofNat 32 (ext lab (i 0) (i 1).val) := by
  pointwise [normT, extW]
  exact normed _ (ext_lt lab hl _ _)

/-- The batch coordinate on axis 0 is the sequence. -/
theorem coord0 (b : Fin 16) (s : Fin 129) (h) : (GatherDims.siCoord gather_S16x512_S16x129x1_S16x129_n_1_0_0_1_2_11 (ix2 b s) (0 : Fin 3) h).val = b.val := by
  unfold GatherDims.siCoord
  simp only [Fin.val_cast]
  rfl

/-- The batch coordinate on axis 1 is the place. -/
theorem coord1 (b : Fin 16) (s : Fin 129) (h) : (GatherDims.siCoord gather_S16x512_S16x129x1_S16x129_n_1_0_0_1_2_11 (ix2 b s) (1 : Fin 3) h).val = s.val := by
  unfold GatherDims.siCoord
  simp only [Fin.val_cast]
  rfl

/-- The start index of result `(b, s)` is read at `(b, s, 0)`. -/
theorem si_value (b : Fin 16) (s : Fin 129) (k) : GatherDims.siIdx gather_S16x512_S16x129x1_S16x129_n_1_0_0_1_2_11 (ix2 b s) k = ix3 b s 0 := by
  funext a
  apply Fin.ext
  match a with
  | ⟨0, _⟩ =>
    show (GatherDims.siIdx gather_S16x512_S16x129x1_S16x129_n_1_0_0_1_2_11 (ix2 b s) k (0 : Fin 3)).val = b.val
    unfold GatherDims.siIdx
    rw [dif_neg (by decide)]
    exact coord0 b s _
  | ⟨1, _⟩ =>
    show (GatherDims.siIdx gather_S16x512_S16x129x1_S16x129_n_1_0_0_1_2_11 (ix2 b s) k (1 : Fin 3)).val = s.val
    unfold GatherDims.siIdx
    rw [dif_neg (by decide)]
    exact coord1 b s _
  | ⟨2, _⟩ =>
    show (GatherDims.siIdx gather_S16x512_S16x129x1_S16x129_n_1_0_0_1_2_11 (ix2 b s) k (2 : Fin 3)).val = 0
    unfold GatherDims.siIdx
    rw [dif_pos (by decide)]
    have h : k.val < 1 := k.isLt
    show k.val = 0
    omega

/-- The gather reads row `b` at the class its index names. -/
theorem gather_value {α : Type} (y : S16x512.Idx → α) (x : IVec S16x129x1 32) (b : Fin 16) (s : Fin 129) (k : Fin 512)
    (h : x (ix3 b s 0) = BitVec.ofNat 32 k.val) : Host.gather gather_S16x512_S16x129x1_S16x129_n_1_0_0_1_2_11 y x (ix2 b s) = y (ix2 b k) := by
  unfold Host.gather
  refine congrArg y (funext fun a => Fin.ext ?_)
  match a with
  | ⟨0, _⟩ =>
    show GatherDims.start gather_S16x512_S16x129x1_S16x129_n_1_0_0_1_2_11 (ix2 b s) x (0 : Fin 2) + GatherDims.batchCoord gather_S16x512_S16x129x1_S16x129_n_1_0_0_1_2_11 (ix2 b s) (0 : Fin 2) + GatherDims.offCoord gather_S16x512_S16x129x1_S16x129_n_1_0_0_1_2_11 (ix2 b s) (0 : Fin 2) = b.val
    rw [GatherDims.start_batching _ _ _ _ (by decide), GatherDims.offCoord_eq_zero _ _ _ (by decide), Nat.zero_add, Nat.add_zero]
    unfold GatherDims.batchCoord
    rw [dif_pos (by decide)]
    exact coord0 b s _
  | ⟨1, _⟩ =>
    show GatherDims.start gather_S16x512_S16x129x1_S16x129_n_1_0_0_1_2_11 (ix2 b s) x (1 : Fin 2) + GatherDims.batchCoord gather_S16x512_S16x129x1_S16x129_n_1_0_0_1_2_11 (ix2 b s) (1 : Fin 2) + GatherDims.offCoord gather_S16x512_S16x129x1_S16x129_n_1_0_0_1_2_11 (ix2 b s) (1 : Fin 2) = k.val
    rw [GatherDims.batchCoord_eq_zero _ _ _ (by decide), GatherDims.offCoord_eq_zero _ _ _ (by decide)]
    show GatherDims.start gather_S16x512_S16x129x1_S16x129_n_1_0_0_1_2_11 (ix2 b s) x (1 : Fin 2) = k.val
    unfold GatherDims.start
    rw [dif_pos (by decide), si_value, h, toInt_small _ k.isLt]
    have hk := k.isLt
    show min ((k.val : Int)).toNat (512 - 1) = k.val
    omega

/-- The row taken at the extended labels. -/
theorem take_value (hl : ∀ b j, lab b j < 512) (y : FVec Ideal S16x512 .f32) (f : Fin 16 → ℕ → EReal)
    (hy : ∀ (b : Fin 16) (k : Fin 512), y (ix2 b k) = f b k.val) :
    takeT y (extW lab) = fun i => f (i 0) (ext lab (i 0) (i 1).val) := by
  funext i
  have hr : Host.reduce IntOp.andi (andi (cmpi .sge (normT (extW lab)) (broadcastInDim S16x129x1 ![] bcast_S_S16x129x1 (constantI S_ 32 0#32)))
      (cmpi .sle (normT (extW lab)) (broadcastInDim S16x129x1 ![0, 1, 2] bcast_S1x1x1_S16x129x1_0_1_2 (broadcastInDim S1x1x1 ![2] bcast_S1_S1x1x1_2 (constantI S1 32 511#32)))))
      (constantI S_ 1 1#1) reducesTo_S16x129x1_S16x129_d2 h_S_ i = 1#1 := by
    refine Host.reduce_andi_one _ _ _ _ _ rfl fun j => ?_
    have hn := norm_value lab hl j
    have hj := ext_lt lab hl (j 0) (j 1).val
    show IntOp.andi (IntOp.cmpi .sge (normT (extW lab) j) 0#32) (IntOp.cmpi .sle (normT (extW lab) j) 511#32) = 1#1
    rw [hn, sge_zero _ hj, sle_top _ hj]
    rfl
  show Scalar.select (Host.reduce IntOp.andi _ _ _ _ i) (Host.gather gather_S16x512_S16x129x1_S16x129_n_1_0_0_1_2_11 y (normT (extW lab)) i) _ = _
  rw [hr]
  show Host.gather gather_S16x512_S16x129x1_S16x129_n_1_0_0_1_2_11 y (normT (extW lab)) i = _
  have hi : i = ix2 (i 0) (i 1) := eq_ix2 i
  have h := gather_value y (normT (extW lab)) (i 0) (i 1) ⟨ext lab (i 0) (i 1).val, ext_lt lab hl _ _⟩ (norm_value lab hl _)
  refine (congrArg _ hi).trans (h.trans (hy _ _))

/-- Whether place `σ` may be reached from two places before. -/
abbrev may (b : Fin 16) (σ : ℕ) : Prop := σ % 2 = 1 ∧ 1 ≤ σ / 2 ∧ σ / 2 < 64 ∧ lab b (σ / 2) ≠ lab b (σ / 2 - 1)

/-- The mask at a place. -/
def mayB (b : Fin 16) (σ : ℕ) : BitVec 1 := if may lab b σ then 1#1 else 0#1

/-- The mask of the skips. -/
def mayW : IVec S16x129 1 := fun i => mayB lab (i 0) (i 1).val

/-- The weight of a skip is one where the mask allows it and zero elsewhere. -/
theorem skp_eq (b : Fin 16) (σ : ℕ) : skp lab b σ = if may lab b σ then 1 else 0 := by
  unfold skp sk
  by_cases h : σ % 2 = 0
  · rw [if_pos h, if_neg fun h' => by omega]
  · have h1 : σ % 2 = 1 := by omega
    rw [if_neg h]
    by_cases h2 : 1 ≤ σ / 2 ∧ σ / 2 < 64 ∧ lab b (σ / 2) ≠ lab b (σ / 2 - 1)
    · rw [if_pos h2, if_pos ⟨h1, h2⟩]
    · rw [if_neg h2, if_neg fun h' => h2 h'.2]

/-- The extended labels the reference makes. -/
theorem ext_value (tg : IVec S1024 32) (htg : ∀ (b : Fin 16) (j : Fin 64), shapeCast S16x64 tg shapeCasts_S1024_S16x64 (ix2 b j) = BitVec.ofNat 32 (lab b j.val)) :
    extT tg = extW lab := by
  have key : ∀ (b : Fin 16) (s : Fin 129), extT tg (ix2 b s) = extW lab (ix2 b s) := by
    intro b s
    have hs := s.isLt
    pointwise [extT, extW]
    by_cases h : s.val < 128
    · have h2 := htg b ⟨s.val / 2, by omega⟩
      refine (dif_pos h).trans ?_
      by_cases h3 : s.val % 2 < 1
      · have he : ext lab b s.val = 0 := if_pos (by omega)
        exact (dif_pos h3).trans (congrArg (BitVec.ofNat 32) he.symm)
      · have he : ext lab b s.val = lab b (s.val / 2) := if_neg (by omega)
        refine (dif_neg h3).trans (Eq.trans ?_ (h2.trans (congrArg (BitVec.ofNat 32) he.symm)))
        pointwise []
    · have he : ext lab b s.val = 0 := if_pos (by omega)
      exact (dif_neg h).trans (congrArg (BitVec.ofNat 32) he.symm)
  funext i
  have hi : i = ix2 (i 0) (i 1) := eq_ix2 i
  rw [hi]
  exact key (i 0) (i 1)

/-- The words of two classes differ where the classes do. -/
theorem ne_word (a b : ℕ) (ha : a < 512) (hb : b < 512) : IntOp.cmpi .ne (BitVec.ofNat 32 a) (BitVec.ofNat 32 b) = if a = b then 0#1 else 1#1 := by
  by_cases h : a = b
  · subst h
    rw [if_pos rfl]
    simp [IntOp.cmpi]
  · rw [if_neg h]
    have : BitVec.ofNat 32 a ≠ BitVec.ofNat 32 b := fun e => by
      have := congrArg BitVec.toNat e
      rw [BitVec.toNat_ofNat, BitVec.toNat_ofNat, Nat.mod_eq_of_lt (by omega), Nat.mod_eq_of_lt (by omega)] at this
      exact h this
    simp only [IntOp.cmpi]
    rw [bne_iff_ne.mpr this]
    rfl

/-- The mask the reference makes: a place may be reached from two places before where it holds a label other than the one
before. -/
theorem skip_value (hl : ∀ b j, lab b j < 512) (hp : ∀ b j, 1 ≤ lab b j) : skipT (extW lab) = mayW lab := by
  have key : ∀ (b : Fin 16) (s : Fin 129), skipT (extW lab) (ix2 b s) = mayW lab (ix2 b s) := by
    intro b s
    have hs := s.isLt
    pointwise [skipT, extW]
    show _ = if may lab b s.val then 1#1 else 0#1
    by_cases h : s.val < 2
    · rw [dif_pos h, if_neg fun h' => by have := h'.2.1; omega]
    · rw [dif_neg h, show 2 + (s.val - 2) = s.val by omega, ne_word _ 0 (ext_lt lab hl _ _) (by decide), ne_word _ _ (ext_lt lab hl _ _) (ext_lt lab hl _ _)]
      have e1 : (s.val - 2) / 2 = s.val / 2 - 1 := by omega
      by_cases h1 : s.val % 2 = 0
      · refine Eq.trans ?_ (if_neg (c := may lab b s.val) fun h' => by have := h'.1; omega).symm
        rw [if_pos (show ext lab b s.val = 0 from if_pos h1)]
        exact (by decide : ∀ x : BitVec 1, IntOp.andi 0#1 x = 0#1) _
      · have hx : ext lab b s.val = lab b (s.val / 2) := if_neg h1
        have hy : ext lab b (s.val - 2) = lab b (s.val / 2 - 1) := (if_neg (by omega)).trans (by rw [e1])
        have hq := hp b (s.val / 2)
        rw [hx, hy, if_neg (by omega)]
        by_cases h2 : lab b (s.val / 2) = lab b (s.val / 2 - 1)
        · rw [if_pos h2, if_neg fun h' => h'.2.2.2 h2]
          rfl
        · rw [if_neg h2, if_pos ⟨by omega, by omega, by omega, h2⟩]
          rfl
  funext i
  have hi : i = ix2 (i 0) (i 1) := eq_ix2 i
  rw [hi]
  exact key (i 0) (i 1)

end Cert.ReferenceIdeal.Terms
end
end
-- ==== Proof.RI.TripValue.lean ====
/- The values of the reference's rows over the extended reals: the row the recursion starts from, one trip, and the result. -/
module

public import proofs.«01_k».proof.Proof.RI.TakeValue

@[expose] public section

set_option maxRecDepth 16384

noncomputable section

namespace Cert.ReferenceIdeal.Terms

open Idealize.ShloMosaic Idealize.ShloMosaic.TcCoe
open Cert.ReferenceIdeal Cert.ReferenceIdeal.Facts₀ Cert.Math
open scoped NNReal

variable (e : ℕ → Fin 16 → ℕ → ℝ≥0) (lab : Fin 16 → ℕ → ℕ)

/-- A row of logarithms. -/
def lnV (f : Fin 16 → ℕ → ℝ≥0) : FVec Ideal S16x129 .f32 := fun i => ell (f (i 0) (i 1).val)

/-- Rows that agree at every sequence and place are equal. -/
theorem row_ext {α : Type} {x y : S16x129.Idx → α} (h : ∀ (b : Fin 16) (s : Fin 129), x (ix2 b s) = y (ix2 b s)) : x = y := by
  funext i
  have hi : i = ix2 (i 0) (i 1) := eq_ix2 i
  rw [hi]
  exact h (i 0) (i 1)

/-- The bit pattern of −∞ denotes the least extended real. -/
theorem bits_ninf : Ideal.ofBits .f32 0xFF800000#32 = ⊥ := by simp [Ideal.ofBits, Ideal.ieee]

/-- A shifted sequence at a place other than zero. -/
theorem sh_pos (f : ℕ → ℝ≥0) {j : ℕ} (h : j ≠ 0) : sh f j = f (j - 1) := if_neg h

/-- A row moved by one place. -/
theorem one_value (f : Fin 16 → ℕ → ℝ≥0) : oneT padOne (lnV f) = lnV fun b => sh (f b) := by
  refine row_ext fun b s => ?_
  have hs := s.isLt
  pointwise [oneT, padOne]
  rw [bits_ninf]
  show _ = ell (sh (f b) s.val)
  by_cases h : s.val < 1
  · rw [dif_pos h, show s.val = 0 by omega, sh_zero, ell_zero]
  · refine (dif_neg h).trans ?_
    rw [sh_pos (f b) (show s.val ≠ 0 by omega)]
    rfl

/-- A row moved by two places where the mask allows it. -/
theorem two_value (f : Fin 16 → ℕ → ℝ≥0) : twoT (mayW lab) padTwo (lnV f) = lnV fun b σ => skp lab b σ * sh (sh (f b)) σ := by
  refine row_ext fun b s => ?_
  have hs := s.isLt
  pointwise [twoT, padTwo]
  rw [bits_ninf]
  show Scalar.select (mayB lab b s.val) _ _ = ell (skp lab b s.val * sh (sh (f b)) s.val)
  rw [skp_eq, mayB]
  by_cases hm : may lab b s.val
  · rw [if_pos hm, if_pos hm, one_mul]
    have h2 : ¬ s.val < 2 := fun h => by have := hm.2.1; omega
    refine (dif_neg h2).trans ?_
    rw [sh_pos (sh (f b)) (show s.val ≠ 0 by omega), sh_pos (f b) (show s.val - 1 ≠ 0 by omega)]
    rfl
  · rw [if_neg hm, if_neg hm, zero_mul, ell_zero]
    rfl

/-- The guarded logarithm of the sum of three rows' exponentials. -/
theorem lse_value (f g h : Fin 16 → ℕ → ℝ≥0) :
    lseT (largeT (lnV f) (lnV g) (lnV h)) (lnV f) (lnV g) (lnV h) = lnV fun b σ => f b σ + g b σ + h b σ := by
  refine row_ext fun b s => ?_
  refine lse_three _ _ _ _ ?_
  pointwise [largeT]
  rw [bits_ninf]
  rfl

/-- The first row. -/
theorem start_value : startT (lnV fun b σ => e 0 b (ext lab b σ)) = lnV fun b => fwd e lab b 1 := by
  refine row_ext fun b s => ?_
  have hs := s.isLt
  pointwise [startT]
  rw [bits_ninf]
  have hf : fwd e lab b 1 s.val = if s.val < 2 then e 0 b (ext lab b s.val) else 0 := by
    show ((if s.val = 0 then 1 else 0) + sh _ s.val + skp lab b s.val * sh (sh _) s.val) * e 0 b (ext lab b s.val) = _
    rcases Nat.lt_or_ge s.val 2 with h | h
    · rw [if_pos h]
      interval_cases s.val
      · rw [if_pos rfl, sh_zero, sh_zero, mul_zero, add_zero, add_zero, one_mul]
      · rw [if_neg one_ne_zero, sh_succ, sh_succ, sh_zero, mul_zero, add_zero, zero_add, ctc, if_pos rfl, one_mul]
    · obtain ⟨k, hk⟩ := Nat.exists_eq_add_of_le' h
      rw [if_neg (by omega), if_neg (by omega), hk, sh_succ, sh_succ, sh_succ, ctc, if_neg (by omega), zero_add]
      rcases Nat.eq_zero_or_pos k with h0 | h0
      · rw [h0, show skp lab b (0 + 1 + 1) = 0 from rfl, zero_mul, add_zero, zero_mul]
      · rw [ctc, if_neg (by omega), mul_zero, add_zero, zero_mul]
  show _ = ell (fwd e lab b 1 s.val)
  rw [hf]
  by_cases h : s.val < 2
  · rw [if_pos h]
    exact dif_pos h
  · rw [if_neg h, ell_zero]
    exact dif_neg h

/-- One step of the recursion. -/
theorem trip_value (n : ℕ) : tripT (lnV fun b σ => e n b (ext lab b σ)) (mayW lab) padOne padTwo (lnV fun b => fwd e lab b n) = lnV fun b => fwd e lab b (n + 1) := by
  unfold tripT
  rw [one_value, two_value, lse_value]
  refine row_ext fun b s => ?_
  exact (ell_mul _ _).symm

/-- Trip `n` reads the log-probabilities of step `n + 1`. -/
theorem slice_value (lp : FVec Ideal S1024x16x512 .f32) (n : ℕ) (h : n + 1 < 1024) (b : Fin 16) (k : Fin 512) :
    sliceT (restT lp) (fun _ => BitVec.ofNat 32 n) (ix2 b k) = lp (ix3 ⟨n + 1, h⟩ b k) := by
  unfold sliceT
  rw [Host.dynamicSlice_eq_extractStridedSlice S1x16x512 (restT lp) _ ![n, 0, 0] sliceFits_S1023x16x512_S1x16x512 ⟨rfl, by
    intro a; fin_cases a <;> simp <;> omega⟩ (by
    intro a
    fin_cases a
    · exact toInt_ofNat_of_lt (by omega)
    · rfl
    · rfl)]
  pointwise [restT]
  exact congrArg (fun q => lp (ix3 q b k)) (Fin.ext (Nat.add_comm 1 n))

/-- The first step's log-probabilities, read at an index. -/
theorem first_value (lp : FVec Ideal S1024x16x512 .f32) (b : Fin 16) (k : Fin 512) :
    firstT lp (ix2 b k) = lp (ix3 0 b k) := by
  pointwise [firstT]

/-- The last column of a row of logarithms. -/
theorem last_value (f : Fin 16 → ℕ → ℝ≥0) : lastT (lnV f) = fun i => ell (f (i 0) 128) := by
  funext i
  pointwise [lastT]
  rfl

/-- The column before the last of a row of logarithms. -/
theorem prev_value (f : Fin 16 → ℕ → ℝ≥0) : prevT (lnV f) = fun i => ell (f (i 0) 127) := by
  funext i
  pointwise [prevT]
  rfl

/-- The result. -/
theorem total_value (f : Fin 16 → ℕ → ℝ≥0) : totalT (likeT (lastT (lnV f)) (prevT (lnV f))) = fun _ => 0 - ∑ r : Fin 16, ell (f r 128 + f r 127) := by
  have key : likeT (lastT (lnV f)) (prevT (lnV f)) = fun i => ell (f (i 0) 128 + f (i 0) 127) := by
    rw [last_value, prev_value]
    funext i
    refine lse_two_guard (f (i 0) 128) (f (i 0) 127) (guardT (F := Ideal) (fun i => ell (f (i 0) 128)) (fun i => ell (f (i 0) 127)) i) ?_
    pointwise [guardT]
    rw [bits_ninf]
  rw [key]
  funext i
  pointwise [totalT]
  exact (zero_sub _).symm

end Cert.ReferenceIdeal.Terms
end
end
-- ==== Proof.RI.Result.lean ====
/- The reference's result: minus the sum of the sequences' log-likelihoods, by the recursion over the steps. -/
module

public import proofs.«01_k».proof.Proof.RI.Entry
public import proofs.«01_k».proof.Proof.RI.TripValue

@[expose] public section

set_option maxRecDepth 16384

noncomputable section

namespace Cert.ReferenceIdeal.Terms

open Idealize.ShloMosaic Idealize.ShloMosaic.TcCoe Idealize.ShloMosaic.StableHlo
open Cert.ReferenceIdeal Cert.ReferenceIdeal.Facts₀ Cert.ReferenceIdeal.Value Cert.Math
open scoped NNReal

variable (m : (ℓ : Loc nD τ sig) → Buf (Elt Ideal) ℓ) (c : Dev nD) (e : ℕ → Fin 16 → ℕ → ℝ≥0) (lab : Fin 16 → ℕ → ℕ)

/-- What the loop carries before trip `n`: the log-probabilities, the extended labels, the paddings, the mask, the counter and
the logarithms of the sums over the first `n + 1` steps' paths. -/
structure Carried (n : ℕ) (V : Valuation τ sig (Elt Ideal)) : Prop where
  rest : V (Proc.devRef .tc main_v26_0) = restT (F := Ideal) (m ((c.tc : Thread nD τ).loc main_arg0))
  labels : V (Proc.devRef .tc main_v26_1) = extW lab
  one : V (Proc.devRef .tc main_v26_2) = (padOne : FVec Ideal S16x1 .f32)
  two : V (Proc.devRef .tc main_v26_3) = (padTwo : FVec Ideal S16x2 .f32)
  mask : V (Proc.devRef .tc main_v26_4) = mayW lab
  count : V (Proc.devRef .tc main_v26_5) = fun _ => BitVec.ofNat 32 n
  row : V (Proc.devRef .tc main_v26_6) = lnV fun b => fwd e lab b (n + 1)

section
variable (hlp : ∀ (t : Fin 1024) (b : Fin 16) (k : Fin 512), m ((c.tc : Thread nD τ).loc main_arg0) (ix3 t b k) = ell (e t.val b k.val))
  (htg : ∀ (b : Fin 16) (j : Fin 64), shapeCast S16x64 (m ((c.tc : Thread nD τ).loc main_arg1)) shapeCasts_S1024_S16x64 (ix2 b j) = BitVec.ofNat 32 (lab b j.val))
  (hl : ∀ b j, lab b j < 512) (hp : ∀ b j, 1 ≤ lab b j)
include hlp htg hl hp

/-- What the loop carries at its entry. -/
theorem carried_zero : Carried m c e lab 0 (entryContents preI m c) where
  rest := entry_rest m c
  labels := (entry_ext m c).trans (ext_value lab _ htg)
  one := entry_one m c
  two := entry_two m c
  mask := by rw [entry_skip, ext_value lab _ htg, skip_value lab hl hp]
  count := ctr_entry m c
  row := by
    rw [entry_start, ext_value lab _ htg, take_value lab hl _ (fun b k => ell (e 0 b k)) fun b k => (first_value _ b k).trans (hlp 0 b k)]
    exact start_value e lab

/-- One trip carries it on. -/
theorem carried_succ (n : ℕ) (hn : n < 1023) (V : Valuation τ sig (Elt Ideal)) (h : Carried m c e lab n V) :
    Carried m c e lab (n + 1) (STEP V) where
  rest := (STEP_main_v26_0 V).trans h.rest
  labels := (STEP_main_v26_1 V).trans h.labels
  one := (STEP_main_v26_2 V).trans h.one
  two := (STEP_main_v26_3 V).trans h.two
  mask := (STEP_main_v26_4 V).trans h.mask
  count := by
    rw [STEP_main_v26_5, step_main_v26_5, h.count]
    funext i
    exact (BitVec.ofNat_add n 1).symm
  row := by
    rw [STEP_main_v26_6, trip_eq, h.rest, h.labels, h.one, h.two, h.mask, h.count, h.row]
    exact (congrArg (fun y => tripT y (mayW lab) padOne padTwo (lnV fun b => fwd e lab b (n + 1)))
      (take_value lab hl _ (fun b k => ell (e (n + 1) b k)) fun b k => (slice_value _ n (by omega) b k).trans (hlp _ b k))).trans
      (trip_value e lab (n + 1))

/-- What the loop carries before trip `n`. -/
theorem carried (n : ℕ) (hn : n ≤ 1023) : Carried m c e lab n (STEP^[n] (entryContents preI m c)) := by
  induction n with
  | zero => exact carried_zero m c e lab hlp htg hl hp
  | succ n ih =>
    rw [Function.iterate_succ_apply']
    exact carried_succ m c e lab hlp htg hl hp n hn _ (ih (Nat.le_of_succ_le hn))

/-- The reference's result. -/
theorem reference_value : out_main_v44 (STEP^[1023] (entryContents preI m c)) = fun _ => 0 - ∑ r : Fin 16, ell (score e lab r) := by
  rw [out_eq, (carried m c e lab hlp htg hl hp 1023 le_rfl).row, total_value]
  rfl

end

end Cert.ReferenceIdeal.Terms
end
end
-- ==== Proof.lean ====
module

public import proofs.«01_k».proof.Defs
public import proofs.«01_k».proof.Proof.K.Frame
public import proofs.«01_k».proof.Proof.KI.Frame
public import proofs.«01_k».proof.Proof.KI.Total
public import proofs.«01_k».proof.Proof.Math.Inputs
public import proofs.«01_k».proof.Proof.RI.Result
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- Every run of the reference terminates with its arguments unchanged; it declares no semaphore. -/
theorem quiescent_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- The kernel's idealization and the reference's end with the same result: minus the sum of the sequences'
log-likelihoods, of the probabilities whose logarithms the inputs are. -/
theorem algebraic [Cert.Pre_pre_inputs.Facts] : Cert.algebraic_KernelIdeal_ReferenceIdeal_pre_pre_inputs := by
  intro m g m' g' hpre hagree
  refine ⟨fun c => Cert.KernelIdeal.Value.G2 m c, Cert.KernelIdeal.Value.run m g, ?_⟩
  refine (θ_run _ _ _).mono (fun _ h c => ⟨(h c).1.trans ?_, (h c).2⟩) (Cert.ReferenceIdeal.Value.run m' g')
  obtain ⟨hl, ht⟩ := Cert.Math.pre_reads _ _ _ _ (hpre c)
  obtain ⟨e, lab, he, hw, hlt, hge⟩ := Cert.Math.inputs_exist _ _ hl ht
  refine (Cert.ReferenceIdeal.Terms.reference_value m' c e lab ?_ ?_ hlt hge).trans
    (Cert.KernelIdeal.Window.kernel_value m c e lab he (hw _) hlt).symm
  · intro t b k
    exact (congrFun (hagree c).1 (ix3 t b k)).trans (he t b k)
  · intro b j
    exact (congrArg (fun x => shapeCast Cert.ReferenceIdeal.S16x64 x Cert.ReferenceIdeal.Facts₀.shapeCasts_S1024_S16x64 (ix2 b j)) (hagree c).2.1).trans (hw _ b j)

theorem claim : Cert.Claim := ⟨Cert.Kernel.Gen.facts, Cert.KernelIdeal.Gen.facts, Cert.ReferenceIdeal.Gen.facts,
  Cert.Math.pre_facts, fun m ρ _ => Cert.Kernel.Body.frame m ρ, fun m ρ _ => Cert.KernelIdeal.Body.frame m ρ,
  fun m ρ _ => Cert.KernelIdeal.Body.frame m ρ, quiescent_reference, fun m ρ _ => quiescent_reference m ρ trivial,
  IdealRules.named_const.statement Cert.KernelIdeal.κ "neg" .f32 0xF149F2CA#32 ⊥ rfl, letI := Cert.Math.pre_facts; algebraic⟩

end Cert.Proof

end
